-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_query [hPre_finite_query : Cert.Pre_finite_query.Facts] (m : (ℓ : Loc Cert.KernelIdeal.nD Cert.KernelIdeal.τ Cert.KernelIdeal.sig) → Buf (Elt Ideal) ℓ) : Prop :=
  ∀ c : Dev Cert.KernelIdeal.nD,
    (Cert.Pre_finite_query.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_query [hPre_finite_query : Cert.Pre_finite_query.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_query.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_query [hKernelIdeal : Cert.KernelIdeal.Facts] [hPre_finite_query : Cert.Pre_finite_query.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_query m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_query [hReferenceIdeal : Cert.ReferenceIdeal.Facts] [hPre_finite_query : Cert.Pre_finite_query.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_query m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_query [hKernelIdeal : Cert.KernelIdeal.Facts] [hReferenceIdeal : Cert.ReferenceIdeal.Facts] [hPre_finite_query : Cert.Pre_finite_query.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_query m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v59_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v59_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_query : Cert.Pre_finite_query.Facts),
    quiescent_Kernel (hKernel := hKernel)
    ∧ quiescent_KernelIdeal (hKernelIdeal := hKernelIdeal)
    ∧ quiescent_KernelIdeal_pre_finite_query (hKernelIdeal := hKernelIdeal) (hPre_finite_query := hPre_finite_query)
    ∧ quiescent_ReferenceIdeal (hReferenceIdeal := hReferenceIdeal)
    ∧ quiescent_ReferenceIdeal_pre_finite_query (hReferenceIdeal := hReferenceIdeal) (hPre_finite_query := hPre_finite_query)
    ∧ preserves_Kernel_KernelIdeal
    ∧ algebraic_KernelIdeal_ReferenceIdeal_pre_finite_query (hKernelIdeal := hKernelIdeal) (hReferenceIdeal := hReferenceIdeal) (hPre_finite_query := hPre_finite_query)
-- ==== Pre_finite_query.lean ====
abbrev S300x4x112 : Shape := ⟨3, ![300, 4, 112]⟩
abbrev S300 : Shape := ⟨1, ![300]⟩
abbrev S20480x112 : Shape := ⟨2, ![20480, 112]⟩
abbrev S20480 : Shape := ⟨1, ![20480]⟩
abbrev S_ : Shape := ⟨0, ![]⟩

class Facts : Prop where
  bcast_S_S300 : S_.BroadcastsInDim S300 (![] : Fin 0 → Fin S300.rank)

variable [Facts]

def fn {F : FTy → Type} [FloatOps F] (main_arg0 : IVec S300x4x112 32) (main_arg1 : FVec F S300 .f32) (main_arg2 : FVec F S300 .f32) (main_arg3 : FVec F S300 .f32) (main_arg4 : FVec F S300 .f32) (main_arg5 : IVec S20480x112 32) (main_arg6 : FVec F S20480 .f32) (main_arg7 : FVec F S20480 .f32) : IVec S300 1 :=
  let main_v0 : FVec F S300 .f32 := Host.absf main_arg1
  let main_cst : FVec F S_ .f32 := constant S_ .f32 0x7F800000#32
  let main_v1 : FVec F S300 .f32 := broadcastInDim S300 ![] bcast_S_S300 main_cst
  let main_v2 : IVec S300 1 := cmpf .olt main_v0 main_v1
  let main_v3 : FVec F S300 .f32 := Host.absf main_arg2
  let main_cst_0 : FVec F S_ .f32 := constant S_ .f32 0x7F800000#32
  let main_v4 : FVec F S300 .f32 := broadcastInDim S300 ![] bcast_S_S300 main_cst_0
  let main_v5 : IVec S300 1 := cmpf .olt main_v3 main_v4
  let main_v6 : FVec F S300 .f32 := Host.absf main_arg4
  let main_cst_1 : FVec F S_ .f32 := constant S_ .f32 0x7F800000#32
  let main_v7 : FVec F S300 .f32 := broadcastInDim S300 ![] bcast_S_S300 main_cst_1
  let main_v8 : IVec S300 1 := cmpf .olt main_v6 main_v7
  let main_v9 : IVec S300 1 := ori main_v5 main_v8
  let main_v10 : IVec S300 1 := andi main_v2 main_v9
  main_v10
-- ==== Kernel.lean ====
abbrev S300x4x112 : Shape := ⟨3, ![300, 4, 112]⟩
abbrev S300 : Shape := ⟨1, ![300]⟩
abbrev S20480x112 : Shape := ⟨2, ![20480, 112]⟩
abbrev S20480 : Shape := ⟨1, ![20480]⟩
abbrev S4 : Shape := ⟨1, ![4]⟩
abbrev S1x4 : Shape := ⟨2, ![1, 4]⟩
abbrev S_ : Shape := ⟨0, ![]⟩
abbrev S8 : Shape := ⟨1, ![8]⟩
abbrev S8x1 : Shape := ⟨2, ![8, 1]⟩
abbrev S8x4 : Shape := ⟨2, ![8, 4]⟩
abbrev S300x4x1x112x1 : Shape := ⟨5, ![300, 4, 1, 112, 1]⟩
abbrev S1x1x8x1x4 : Shape := ⟨5, ![1, 1, 8, 1, 4]⟩
abbrev S300x4x8x112x4 : Shape := ⟨5, ![300, 4, 8, 112, 4]⟩
abbrev S1x4x1x1x1 : Shape := ⟨5, ![1, 4, 1, 1, 1]⟩
abbrev S300x8x112x4 : Shape := ⟨4, ![300, 8, 112, 4]⟩
abbrev S300x3584 : Shape := ⟨2, ![300, 3584]⟩
abbrev S300x1 : Shape := ⟨2, ![300, 1]⟩
abbrev S1x3584 : Shape := ⟨2, ![1, 3584]⟩
abbrev S19x3584 : Shape := ⟨2, ![19, 3584]⟩
abbrev S320x3584 : Shape := ⟨2, ![320, 3584]⟩
abbrev S300x20480 : Shape := ⟨2, ![300, 20480]⟩
abbrev S1024x112 : Shape := ⟨2, ![1024, 112]⟩
abbrev S1024 : Shape := ⟨1, ![1024]⟩
abbrev S300x1024 : Shape := ⟨2, ![300, 1024]⟩
abbrev S112x1024 : Shape := ⟨2, ![112, 1024]⟩
abbrev S448x1024 : Shape := ⟨2, ![448, 1024]⟩
abbrev S3584x1024 : Shape := ⟨2, ![3584, 1024]⟩
abbrev S320x1024 : Shape := ⟨2, ![320, 1024]⟩
abbrev S1x1024 : Shape := ⟨2, ![1, 1024]⟩

abbrev nBuf : Space → Nat
  | .hbm => 91
  | .vmem => 17
  | .smem => 0
  | _ => 0

abbrev bufTy : (tb : Table) → Fin (tcTables nBuf tb) → BufTy
  | .hbm, ⟨0, _⟩ => ⟨S300x4x112, .i32⟩
  | .hbm, ⟨1, _⟩ => ⟨S300, .f32⟩
  | .hbm, ⟨2, _⟩ => ⟨S300, .f32⟩
  | .hbm, ⟨3, _⟩ => ⟨S300, .f32⟩
  | .hbm, ⟨4, _⟩ => ⟨S300, .f32⟩
  | .hbm, ⟨5, _⟩ => ⟨S20480x112, .i32⟩
  | .hbm, ⟨6, _⟩ => ⟨S20480, .f32⟩
  | .hbm, ⟨7, _⟩ => ⟨S20480, .f32⟩
  | .hbm, ⟨8, _⟩ => ⟨S4, .i32⟩
  | .hbm, ⟨9, _⟩ => ⟨S1x4, .i32⟩
  | .hbm, ⟨10, _⟩ => ⟨S_, .i32⟩
  | .hbm, ⟨11, _⟩ => ⟨S1x4, .i32⟩
  | .hbm, ⟨12, _⟩ => ⟨S1x4, .i32⟩
  | .hbm, ⟨13, _⟩ => ⟨S8, .i32⟩
  | .hbm, ⟨14, _⟩ => ⟨S8x1, .i32⟩
  | .hbm, ⟨15, _⟩ => ⟨S8x4, .i32⟩
  | .hbm, ⟨16, _⟩ => ⟨S8x4, .i32⟩
  | .hbm, ⟨17, _⟩ => ⟨S8x4, .i32⟩
  | .hbm, ⟨18, _⟩ => ⟨S8x4, .i32⟩
  | .hbm, ⟨19, _⟩ => ⟨S300x4x1x112x1, .i32⟩
  | .hbm, ⟨20, _⟩ => ⟨S1x1x8x1x4, .i32⟩
  | .hbm, ⟨21, _⟩ => ⟨S300x4x8x112x4, .i32⟩
  | .hbm, ⟨22, _⟩ => ⟨S300x4x8x112x4, .i32⟩
  | .hbm, ⟨23, _⟩ => ⟨S300x4x8x112x4, .i32⟩
  | .hbm, ⟨24, _⟩ => ⟨S_, .i32⟩
  | .hbm, ⟨25, _⟩ => ⟨S300x4x8x112x4, .i32⟩
  | .hbm, ⟨26, _⟩ => ⟨S300x4x8x112x4, .i32⟩
  | .hbm, ⟨27, _⟩ => ⟨S4, .i32⟩
  | .hbm, ⟨28, _⟩ => ⟨S1x4x1x1x1, .i32⟩
  | .hbm, ⟨29, _⟩ => ⟨S300x4x8x112x4, .i32⟩
  | .hbm, ⟨30, _⟩ => ⟨S300x4x8x112x4, .i32⟩
  | .hbm, ⟨31, _⟩ => ⟨S_, .i32⟩
  | .hbm, ⟨32, _⟩ => ⟨S300x8x112x4, .i32⟩
  | .hbm, ⟨33, _⟩ => ⟨S300x3584, .i32⟩
  | .hbm, ⟨34, _⟩ => ⟨S300x3584, .f32⟩
  | .hbm, ⟨35, _⟩ => ⟨S_, .f32⟩
  | .hbm, ⟨36, _⟩ => ⟨S300, .f32⟩
  | .hbm, ⟨37, _⟩ => ⟨S300, .f32⟩
  | .hbm, ⟨38, _⟩ => ⟨S300, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S300, .f32⟩
  | .hbm, ⟨43, _⟩ => ⟨S300, .f32⟩
  | .hbm, ⟨44, _⟩ => ⟨S_, .f32⟩
  | .hbm, ⟨45, _⟩ => ⟨S300, .f32⟩
  | .hbm, ⟨46, _⟩ => ⟨S300, .f32⟩
  | .hbm, ⟨47, _⟩ => ⟨S300x1, .f32⟩
  | .hbm, ⟨48, _⟩ => ⟨S300x3584, .f32⟩
  | .hbm, ⟨49, _⟩ => ⟨S300x3584, .f32⟩
  | .hbm, ⟨50, _⟩ => ⟨S_, .f32⟩
  | .hbm, ⟨51, _⟩ => ⟨S1x3584, .f32⟩
  | .hbm, ⟨52, _⟩ => ⟨S_, .f32⟩
  | .hbm, ⟨53, _⟩ => ⟨S19x3584, .f32⟩
  | .hbm, ⟨54, _⟩ => ⟨S320x3584, .f32⟩
  | .hbm, ⟨55, _⟩ => ⟨S320x3584, .fp8e4m3⟩
  | .hbm, ⟨56, _⟩ => ⟨S_, .f32⟩
  | .hbm, ⟨57, _⟩ => ⟨S300, .f32⟩
  | .hbm, ⟨58, _⟩ => ⟨S300, .f32⟩
  | .hbm, ⟨59, _⟩ => ⟨S_, .f32⟩
  | .hbm, ⟨60, _⟩ => ⟨S300, .f32⟩
  | .hbm, ⟨61, _⟩ => ⟨S300, .f32⟩
  | .hbm, ⟨62, _⟩ => ⟨S300x1, .f32⟩
  | .hbm, ⟨63, _⟩ => ⟨S_, .f32⟩
  | .hbm, ⟨64, _⟩ => ⟨S300, .f32⟩
  | .hbm, ⟨65, _⟩ => ⟨S300, .f32⟩
  | .hbm, ⟨66, _⟩ => ⟨S_, .f32⟩
  | .hbm, ⟨67, _⟩ => ⟨S300, .f32⟩
  | .hbm, ⟨68, _⟩ => ⟨S300, .f32⟩
  | .hbm, ⟨69, _⟩ => ⟨S_, .f32⟩
  | .hbm, ⟨70, _⟩ => ⟨S300, .f32⟩
  | .hbm, ⟨71, _⟩ => ⟨S300, .f32⟩
  | .hbm, ⟨72, _⟩ => ⟨S_, .f32⟩
  | .hbm, ⟨73, _⟩ => ⟨S300, .f32⟩
  | .hbm, ⟨74, _⟩ => ⟨S300, .f32⟩
  | .hbm, ⟨75, _⟩ => ⟨S300, .f32⟩
  | .hbm, ⟨76, _⟩ => ⟨S300, .f32⟩
  | .hbm, ⟨77, _⟩ => ⟨S300x1, .f32⟩
  | .hbm, ⟨78, _⟩ => ⟨S_, .f32⟩
  | .hbm, ⟨79, _⟩ => ⟨S300, .f32⟩
  | .hbm, ⟨80, _⟩ => ⟨S300, .f32⟩
  | .hbm, ⟨81, _⟩ => ⟨S300, .f32⟩
  | .hbm, ⟨82, _⟩ => ⟨S_, .f32⟩
  | .hbm, ⟨83, _⟩ => ⟨S300, .f32⟩
  | .hbm, ⟨84, _⟩ => ⟨S300, .f32⟩
  | .hbm, ⟨85, _⟩ => ⟨S300, .f32⟩
  | .hbm, ⟨86, _⟩ => ⟨S300x1, .f32⟩
  | .hbm, ⟨87, _⟩ => ⟨S300x1, .f32⟩
  | .hbm, ⟨88, _⟩ => ⟨S300x20480, .f32⟩
  | .hbm, ⟨89, _⟩ => ⟨S300x20480, .f32⟩
  | .hbm, ⟨90, _⟩ => ⟨S300x20480, .f32⟩
  | .local _ .vmem, ⟨0, _⟩ => ⟨S320x3584, .fp8e4m3⟩
  | .local _ .vmem, ⟨1, _⟩ => ⟨S300x1, .f32⟩
  | .local _ .vmem, ⟨2, _⟩ => ⟨S300x1, .f32⟩
  | .local _ .vmem, ⟨3, _⟩ => ⟨S300x1, .f32⟩
  | .local _ .vmem, ⟨4, _⟩ => ⟨S300x1, .f32⟩
  | .local _ .vmem, ⟨5, _⟩ => ⟨S1024x112, .i32⟩
  | .local _ .vmem, ⟨6, _⟩ => ⟨S1024x112, .i32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S300x1024, .f32⟩
  | .local _ .vmem, ⟨12, _⟩ => ⟨S300x1024, .f32⟩
  | .local _ .vmem, ⟨13, _⟩ => ⟨S300x1024, .f32⟩
  | .local _ .vmem, ⟨14, _⟩ => ⟨S300x1024, .f32⟩
  | .local _ .vmem, ⟨15, _⟩ => ⟨S300x1024, .f32⟩
  | .local _ .vmem, ⟨16, _⟩ => ⟨S300x1024, .f32⟩
  | _, _ => ⟨S300x4x112, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59_0 : Ref sig .tc := ⟨.hbm, 88, rfl⟩
abbrev main_v59_1 : Ref sig .tc := ⟨.hbm, 89, rfl⟩
abbrev main_v59_2 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S320x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S300x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S300x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S300x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x112 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S300x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S300x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S300x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S300x4x112 : Shape := ⟨3, ![300, 4, 112]⟩
abbrev S300 : Shape := ⟨1, ![300]⟩
abbrev S20480x112 : Shape := ⟨2, ![20480, 112]⟩
abbrev S20480 : Shape := ⟨1, ![20480]⟩
abbrev S4 : Shape := ⟨1, ![4]⟩
abbrev S_ : Shape := ⟨0, ![]⟩
abbrev S300x4x1x112 : Shape := ⟨4, ![300, 4, 1, 112]⟩
abbrev S1x1x20480x112 : Shape := ⟨4, ![1, 1, 20480, 112]⟩
abbrev S300x4x20480x112 : Shape := ⟨4, ![300, 4, 20480, 112]⟩
abbrev S300x4x20480 : Shape := ⟨3, ![300, 4, 20480]⟩
abbrev S1x4x1 : Shape := ⟨3, ![1, 4, 1]⟩
abbrev S300x20480 : Shape := ⟨2, ![300, 20480]⟩
abbrev S300x1 : Shape := ⟨2, ![300, 1]⟩
abbrev S1x20480 : Shape := ⟨2, ![1, 20480]⟩

abbrev nBuf : Space → Nat
  | .hbm => 109
  | .vmem => 0
  | .smem => 0
  | _ => 0

abbrev bufTy : (tb : Table) → Fin (tcTables nBuf tb) → BufTy
  | .hbm, ⟨0, _⟩ => ⟨S300x4x112, .i32⟩
  | .hbm, ⟨1, _⟩ => ⟨S300, .f32⟩
  | .hbm, ⟨2, _⟩ => ⟨S300, .f32⟩
  | .hbm, ⟨3, _⟩ => ⟨S300, .f32⟩
  | .hbm, ⟨4, _⟩ => ⟨S300, .f32⟩
  | .hbm, ⟨5, _⟩ => ⟨S20480x112, .i32⟩
  | .hbm, ⟨6, _⟩ => ⟨S20480, .f32⟩
  | .hbm, ⟨7, _⟩ => ⟨S20480, .f32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S300x4x1x112, .i32⟩
  | .hbm, ⟨13, _⟩ => ⟨S1x1x20480x112, .i32⟩
  | .hbm, ⟨14, _⟩ => ⟨S300x4x20480x112, .i32⟩
  | .hbm, ⟨15, _⟩ => ⟨S300x4x20480x112, .i32⟩
  | .hbm, ⟨16, _⟩ => ⟨S300x4x20480x112, .i32⟩
  | .hbm, ⟨17, _⟩ => ⟨S300x4x20480x112, .i32⟩
  | .hbm, ⟨18, _⟩ => ⟨S300x4x20480x112, .i32⟩
  | .hbm, ⟨19, _⟩ => ⟨S_, .i32⟩
  | .hbm, ⟨20, _⟩ => ⟨S300x4x20480, .i32⟩
  | .hbm, ⟨21, _⟩ => ⟨S1x4x1, .i32⟩
  | .hbm, ⟨22, _⟩ => ⟨S300x4x20480, .i32⟩
  | .hbm, ⟨23, _⟩ => ⟨S300x4x20480, .i32⟩
  | .hbm, ⟨24, _⟩ => ⟨S_, .i32⟩
  | .hbm, ⟨25, _⟩ => ⟨S300x20480, .i32⟩
  | .hbm, ⟨26, _⟩ => ⟨S20480x112, .i32⟩
  | .hbm, ⟨27, _⟩ => ⟨S20480x112, .i32⟩
  | .hbm, ⟨28, _⟩ => ⟨S_, .i32⟩
  | .hbm, ⟨29, _⟩ => ⟨S20480, .i32⟩
  | .hbm, ⟨30, _⟩ => ⟨S300x20480, .f32⟩
  | .hbm, ⟨31, _⟩ => ⟨S20480, .f32⟩
  | .hbm, ⟨32, _⟩ => ⟨S_, .f32⟩
  | .hbm, ⟨33, _⟩ => ⟨S300, .f32⟩
  | .hbm, ⟨34, _⟩ => ⟨S300, .f32⟩
  | .hbm, ⟨35, _⟩ => ⟨S_, .f32⟩
  | .hbm, ⟨36, _⟩ => ⟨S300, .f32⟩
  | .hbm, ⟨37, _⟩ => ⟨S300, .f32⟩
  | .hbm, ⟨38, _⟩ => ⟨S300x1, .f32⟩
  | .hbm, ⟨39, _⟩ => ⟨S300x20480, .f32⟩
  | .hbm, ⟨40, _⟩ => ⟨S300x20480, .f32⟩
  | .hbm, ⟨41, _⟩ => ⟨S_, .f32⟩
  | .hbm, ⟨42, _⟩ => ⟨S300, .f32⟩
  | .hbm, ⟨43, _⟩ => ⟨S300, .f32⟩
  | .hbm, ⟨44, _⟩ => ⟨S_, .f32⟩
  | .hbm, ⟨45, _⟩ => ⟨S300, .f32⟩
  | .hbm, ⟨46, _⟩ => ⟨S300, .f32⟩
  | .hbm, ⟨47, _⟩ => ⟨S300x1, .f32⟩
  | .hbm, ⟨48, _⟩ => ⟨S1x20480, .f32⟩
  | .hbm, ⟨49, _⟩ => ⟨S300x20480, .f32⟩
  | .hbm, ⟨50, _⟩ => ⟨S300x20480, .f32⟩
  | .hbm, ⟨51, _⟩ => ⟨S300x20480, .f32⟩
  | .hbm, ⟨52, _⟩ => ⟨S300x20480, .f32⟩
  | .hbm, ⟨53, _⟩ => ⟨S_, .f32⟩
  | .hbm, ⟨54, _⟩ => ⟨S300, .f32⟩
  | .hbm, ⟨55, _⟩ => ⟨S300, .f32⟩
  | .hbm, ⟨56, _⟩ => ⟨S300, .f32⟩
  | .hbm, ⟨57, _⟩ => ⟨S300x1, .f32⟩
  | .hbm, ⟨58, _⟩ => ⟨S300x20480, .f32⟩
  | .hbm, ⟨59, _⟩ => ⟨S300x20480, .f32⟩
  | .hbm, ⟨60, _⟩ => ⟨S_, .f32⟩
  | .hbm, ⟨61, _⟩ => ⟨S300, .f32⟩
  | .hbm, ⟨62, _⟩ => ⟨S300, .f32⟩
  | .hbm, ⟨63, _⟩ => ⟨S300x1, .f32⟩
  | .hbm, ⟨64, _⟩ => ⟨S300x20480, .f32⟩
  | .hbm, ⟨65, _⟩ => ⟨S300x20480, .f32⟩
  | .hbm, ⟨66, _⟩ => ⟨S1x20480, .f32⟩
  | .hbm, ⟨67, _⟩ => ⟨S300x20480, .f32⟩
  | .hbm, ⟨68, _⟩ => ⟨S300x20480, .f32⟩
  | .hbm, ⟨69, _⟩ => ⟨S20480, .f32⟩
  | .hbm, ⟨70, _⟩ => ⟨S1x20480, .f32⟩
  | .hbm, ⟨71, _⟩ => ⟨S300, .f32⟩
  | .hbm, ⟨72, _⟩ => ⟨S300x1, .f32⟩
  | .hbm, ⟨73, _⟩ => ⟨S300x20480, .f32⟩
  | .hbm, ⟨74, _⟩ => ⟨S300x20480, .f32⟩
  | .hbm, ⟨75, _⟩ => ⟨S300x20480, .f32⟩
  | .hbm, ⟨76, _⟩ => ⟨S1x20480, .f32⟩
  | .hbm, ⟨77, _⟩ => ⟨S_, .f32⟩
  | .hbm, ⟨78, _⟩ => ⟨S1x20480, .f32⟩
  | .hbm, ⟨79, _⟩ => ⟨S1x20480, .f32⟩
  | .hbm, ⟨80, _⟩ => ⟨S300x1, .f32⟩
  | .hbm, ⟨81, _⟩ => ⟨S300x20480, .f32⟩
  | .hbm, ⟨82, _⟩ => ⟨S300x20480, .f32⟩
  | .hbm, ⟨83, _⟩ => ⟨S300x20480, .f32⟩
  | .hbm, ⟨84, _⟩ => ⟨S300x20480, .f32⟩
  | .hbm, ⟨85, _⟩ => ⟨S300x20480, .f32⟩
  | .hbm, ⟨86, _⟩ => ⟨S20480, .f32⟩
  | .hbm, ⟨87, _⟩ => ⟨S_, .f32⟩
  | .hbm, ⟨88, _⟩ => ⟨S20480, .f32⟩
  | .hbm, ⟨89, _⟩ => ⟨S20480, .f32⟩
  | .hbm, ⟨90, _⟩ => ⟨S20480, .f32⟩
  | .hbm, ⟨91, _⟩ => ⟨S20480, .f32⟩
  | .hbm, ⟨92, _⟩ => ⟨S_, .f32⟩
  | .hbm, ⟨93, _⟩ => ⟨S20480, .f32⟩
  | .hbm, ⟨94, _⟩ => ⟨S20480, .f32⟩
  | .hbm, ⟨95, _⟩ => ⟨S_, .f32⟩
  | .hbm, ⟨96, _⟩ => ⟨S20480, .f32⟩
  | .hbm, ⟨97, _⟩ => ⟨S20480, .f32⟩
  | .hbm, ⟨98, _⟩ => ⟨S1x20480, .f32⟩
  | .hbm, ⟨99, _⟩ => ⟨S_, .f32⟩
  | .hbm, ⟨100, _⟩ => ⟨S1x20480, .f32⟩
  | .hbm, ⟨101, _⟩ => ⟨S1x20480, .f32⟩
  | .hbm, ⟨102, _⟩ => ⟨S300x1, .f32⟩
  | .hbm, ⟨103, _⟩ => ⟨S300x20480, .f32⟩
  | .hbm, ⟨104, _⟩ => ⟨S300x20480, .f32⟩
  | .hbm, ⟨105, _⟩ => ⟨S300x20480, .f32⟩
  | .hbm, ⟨106, _⟩ => ⟨S1x20480, .f32⟩
  | .hbm, ⟨107, _⟩ => ⟨S300x20480, .f32⟩
  | .hbm, ⟨108, _⟩ => ⟨S300x20480, .f32⟩
  | _, _ => ⟨S300x4x112, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_cst_11 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== Proof.Codes.lean ====
/-
  THE COUNTING. A query coordinate is stored as four bit planes, a database coordinate as one bit; both programs sum,
  over the 112 words of 32 coordinates, `code · bit`. One of them counts the set bits of `plane & word` word by word and
  weighs the four plane counts; the other lists the coordinates in another order (byte plane, word, byte) and multiplies.
  This module says in natural numbers what each sum is and that they are one number, and that nothing leaves 32 bits.
-/
module

public import Idealize.ShloMosaic.Lib.WordArith
public import Idealize.ShloMosaic.Lib.WordSum
public import Idealize.ShloMosaic.PureOps.Ideal

@[expose] public section

noncomputable section

namespace Cert.Rabitq

open Idealize.ShloMosaic

/-- Bit `s` of a word, as a natural number. -/
def bit (x : BitVec 32) (s : ℕ) : ℕ := (x.getLsbD s).toNat

/-- The code of the coordinate at bit `s`: its four plane bits, plane `b` weighing `2^b`. -/
def code (q : Fin 4 → BitVec 32) (s : ℕ) : ℕ := ∑ b : Fin 4, bit (q b) s * 2 ^ (b : ℕ)

/-- The inner product of a query's codes (planes `q b w`) with a database row's bits (words `x w`). -/
def ipN (q : Fin 4 → Fin 112 → BitVec 32) (x : Fin 112 → BitVec 32) : ℕ :=
  ∑ w : Fin 112, ∑ s : Fin 32, code (fun b => q b w) s * bit (x w) s

/-- The number of set bits of a database row. -/
def cntN (x : Fin 112 → BitVec 32) : ℕ := ∑ w : Fin 112, ∑ s : Fin 32, bit (x w) s

/-- A bit is at most 1. -/
theorem bit_le (x : BitVec 32) (s : ℕ) : bit x s ≤ 1 := Bool.toNat_le _

/-- A four-bit code is at most 15. -/
theorem code_le (q : Fin 4 → BitVec 32) (s : ℕ) : code q s ≤ 15 := by
  have h := fun b => bit_le (q b) s
  calc code q s ≤ ∑ b : Fin 4, 1 * 2 ^ (b : ℕ) := Finset.sum_le_sum fun b _ => Nat.mul_le_mul_right _ (h b)
    _ = 15 := by decide

/-- A population count is the sum of the word's bits. -/
theorem toNat_ctpop (x : BitVec 32) : (IntOp.ctpop x).toNat = ∑ s : Fin 32, bit x s := by
  rw [WordArith.toNat_ctpop, Fin.sum_univ_eq_sum_range (fun s => bit x s) 32]
  suffices h : ∀ n, ((List.range n).filter fun i => x.getLsbD i).length = ∑ s ∈ Finset.range n, bit x s from h 32
  intro n
  induction n with
  | zero => rfl
  | succ n ih =>
    rw [List.range_succ, List.filter_append, List.length_append, ih, Finset.sum_range_succ]
    congr 1
    rw [bit]
    cases h : x.getLsbD n <;> simp [h]

/-- A word has at most 32 set bits. -/
theorem ctpop_le (x : BitVec 32) : (IntOp.ctpop x).toNat ≤ 32 := WordArith.toNat_ctpop_le x

/-- A bit of a conjunction is the product of the bits. -/
theorem bit_and (x y : BitVec 32) (s : ℕ) : bit (x &&& y) s = bit x s * bit y s := by
  simp only [bit, BitVec.getLsbD_and]
  cases x.getLsbD s <;> cases y.getLsbD s <;> rfl

/-- The set bits of a row, added up as naturals, are at most 3584. -/
theorem sum_ctpop_le (x : Fin 112 → BitVec 32) : ∑ w, (IntOp.ctpop (x w)).toNat ≤ 3584 :=
  (Finset.sum_le_sum fun w _ => ctpop_le (x w)).trans (by simp)

/-- The integer sum of a host reduction is the sum of its words. -/
theorem fold_addi {ι : Type} (s : Finset ι) (f : ι → BitVec 32) : Finset.fold IntOp.addi 0#32 f s = ∑ i ∈ s, f i := by
  induction s using Finset.cons_induction with
  | empty => rfl
  | cons a s ha ih => rw [Finset.fold_cons, Finset.sum_cons, ih]; rfl

/-- The set bits of a row, counted word by word in 32-bit arithmetic. -/
theorem sum_ctpop (x : Fin 112 → BitVec 32) : (∑ w, IntOp.ctpop (x w)).toNat = cntN x := by
  rw [WordSum.toNat_sum _ _ (lt_of_le_of_lt (sum_ctpop_le x) (by norm_num))]
  exact Finset.sum_congr rfl fun w _ => toNat_ctpop (x w)

/-- The 32-bit sum of a row's word counts is at most 3584. -/
theorem sum_ctpop_toNat_le (x : Fin 112 → BitVec 32) : (∑ w, IntOp.ctpop (x w)).toNat ≤ 3584 := by
  rw [WordSum.toNat_sum _ _ (lt_of_le_of_lt (sum_ctpop_le x) (by norm_num))]
  exact sum_ctpop_le x

/-- A row's count is at most 3584. -/
theorem cntN_le (x : Fin 112 → BitVec 32) : cntN x ≤ 3584 := sum_ctpop x ▸ sum_ctpop_toNat_le x

/-- The weighted plane counts, in 32-bit arithmetic, are the inner product. -/
theorem sum_planes (q : Fin 4 → Fin 112 → BitVec 32) (x : Fin 112 → BitVec 32) (wt : Fin 4 → BitVec 32)
    (hwt : ∀ b, (wt b).toNat = 2 ^ (b : ℕ)) :
    (∑ b, (∑ w, IntOp.ctpop (q b w &&& x w)) * wt b).toNat = ipN q x := by
  have hmul : ∀ b, ((∑ w, IntOp.ctpop (q b w &&& x w)) * wt b).toNat = cntN (fun w => q b w &&& x w) * 2 ^ (b : ℕ) := by
    intro b
    rw [BitVec.toNat_mul, sum_ctpop fun w => q b w &&& x w, hwt]
    refine Nat.mod_eq_of_lt ?_
    have h1 := cntN_le fun w => q b w &&& x w
    have h2 : 2 ^ (b : ℕ) ≤ 2 ^ 4 := Nat.pow_le_pow_right (by norm_num) b.isLt.le
    calc _ ≤ 3584 * 2 ^ 4 := Nat.mul_le_mul h1 h2
      _ < _ := by norm_num
  rw [WordSum.toNat_sum, Finset.sum_congr rfl fun b _ => hmul b]
  · simp only [cntN, ipN, code, Finset.sum_mul]
    rw [Finset.sum_comm]
    refine Finset.sum_congr rfl fun w _ => ?_
    rw [Finset.sum_comm]
    refine Finset.sum_congr rfl fun s _ => Finset.sum_congr rfl fun b _ => ?_
    rw [bit_and, mul_right_comm]
  · rw [Finset.sum_congr rfl fun b _ => hmul b]
    calc _ ≤ ∑ b : Fin 4, 3584 * 2 ^ 4 := Finset.sum_le_sum fun b _ =>
          Nat.mul_le_mul (cntN_le _) (Nat.pow_le_pow_right (by norm_num) b.isLt.le)
      _ < _ := by simp

/-- A dot product of codes with bits is at most 15 · 3584. -/
theorem ipN_le (q : Fin 4 → Fin 112 → BitVec 32) (x : Fin 112 → BitVec 32) : ipN q x ≤ 53760 := by
  calc ipN q x ≤ ∑ w : Fin 112, ∑ s : Fin 32, 15 := Finset.sum_le_sum fun w _ => Finset.sum_le_sum fun s _ =>
        (Nat.mul_le_mul (code_le _ _) (bit_le _ _)).trans (by norm_num)
    _ = _ := by simp

/-! ## The other order of the coordinates -/

/-- The word of contraction position `k`. -/
def kw (k : Fin 3584) : Fin 112 := ⟨(k : ℕ) % 448 / 4, by omega⟩

/-- The bit, within its word, of contraction position `k`. -/
def ks (k : Fin 3584) : Fin 32 := ⟨8 * ((k : ℕ) % 4) + (k : ℕ) / 448, by omega⟩

/-- Each coordinate (word, bit) is at exactly one contraction position. -/
def coordEquiv : Fin 3584 ≃ Fin 112 × Fin 32 where
  toFun k := (kw k, ks k)
  invFun p := ⟨((p.2 : ℕ) % 8) * 448 + 4 * (p.1 : ℕ) + (p.2 : ℕ) / 8, by omega⟩
  left_inv k := by
    apply Fin.ext
    simp only [kw, ks]
    have h1 : (k : ℕ) / 448 < 8 := by omega
    have h2 : (8 * ((k : ℕ) % 4) + (k : ℕ) / 448) % 8 = (k : ℕ) / 448 := by omega
    have h3 : (8 * ((k : ℕ) % 4) + (k : ℕ) / 448) / 8 = (k : ℕ) % 4 := by omega
    rw [h2, h3]
    omega
  right_inv p := by
    obtain ⟨w, s⟩ := p
    have h1 : ((s : ℕ) % 8 * 448 + 4 * (w : ℕ) + (s : ℕ) / 8) % 448 = 4 * (w : ℕ) + (s : ℕ) / 8 := by omega
    have h2 : ((s : ℕ) % 8 * 448 + 4 * (w : ℕ) + (s : ℕ) / 8) / 448 = (s : ℕ) % 8 := by omega
    have h3 : ((s : ℕ) % 8 * 448 + 4 * (w : ℕ) + (s : ℕ) / 8) % 4 = (s : ℕ) / 8 := by omega
    refine Prod.ext (Fin.ext ?_) (Fin.ext ?_)
    · simp only [kw, h1]; omega
    · simp only [ks, h2, h3]; omega

/-- A sum over contraction positions is the sum over words and bits. -/
theorem sum_coords {M : Type*} [AddCommMonoid M] (f : Fin 112 → Fin 32 → M) :
    ∑ k, f (kw k) (ks k) = ∑ w, ∑ s, f w s := by
  rw [← Fintype.sum_prod_type' f]
  exact Fintype.sum_equiv coordEquiv _ _ fun k => rfl

/-! ## In the reals -/

/-- A sum of reals in the extended reals is the real sum. -/
theorem coe_sum {ι : Type*} (s : Finset ι) (f : ι → ℝ) : (∑ i ∈ s, (f i : EReal)) = ((∑ i ∈ s, f i : ℝ) : EReal) := by
  induction s using Finset.cons_induction with
  | empty => simp
  | cons a s ha ih => rw [Finset.sum_cons, Finset.sum_cons, ih, EReal.coe_add]

/-- The centred codes against the bits, the bits standing at `1/512`, then scaled by `512`: the inner product less the
    centre times the bit count. -/
theorem sum_centred (q : Fin 4 → Fin 112 → BitVec 32) (x : Fin 112 → BitVec 32) (z : ℝ) :
    (∑ k : Fin 3584, (((code (fun b => q b (kw k)) (ks k) : ℝ) - z : ℝ) : EReal)
        * ((bit (x (kw k)) (ks k) * (1 / 512) : ℝ) : EReal)) * ((512 : ℝ) : EReal)
      = ((ipN q x - z * cntN x : ℝ) : EReal) := by
  simp only [← EReal.coe_mul]
  rw [coe_sum, ← EReal.coe_mul]
  congr 1
  rw [sum_coords fun w s => ((code (fun b => q b w) s : ℝ) - z) * (bit (x w) s * (1 / 512))]
  simp only [ipN, cntN, Nat.cast_sum, Nat.cast_mul, Finset.mul_sum, Finset.sum_mul, ← Finset.sum_sub_distrib]
  exact Finset.sum_congr rfl fun w _ => Finset.sum_congr rfl fun s _ => by ring

/-- The row of ones against the bits: the bit count. -/
theorem sum_ones (x : Fin 112 → BitVec 32) :
    (∑ k : Fin 3584, ((1 : ℝ) : EReal) * ((bit (x (kw k)) (ks k) * (1 / 512) : ℝ) : EReal)) * ((512 : ℝ) : EReal)
      = ((cntN x : ℝ) : EReal) := by
  simp only [← EReal.coe_mul]
  rw [coe_sum, ← EReal.coe_mul]
  congr 1
  rw [sum_coords fun w s => (1 : ℝ) * (bit (x w) s * (1 / 512))]
  simp only [cntN, Nat.cast_sum, Finset.sum_mul]
  exact Finset.sum_congr rfl fun w _ => Finset.sum_congr rfl fun s _ => by ring

end Cert.Rabitq

end
-- ==== Proof.Algebra.lean ====
/-
  THE EQUATION. The estimated inner product, once as the reference spells it (codes against bits, four terms) and once as
  the kernel does (centred codes, the bit count's coefficient corrected for the centre, the two constant terms subtracted
  together), over the extended reals, where neither distributivity nor re-bracketing holds in general. The two agree when
  `q_delta` is a real number and `q_vl` or `sumq` is.
-/
module

public import proofs.«01_k».proof.Proof.Codes
public import Mathlib.Tactic.NormNum

@[expose] public section

noncomputable section

namespace Cert.Rabitq

open Idealize.ShloMosaic

/-- The constant 2 of both programs. -/
abbrev two : EReal := Ideal.ofBits .f32 0x40000000#32

/-- The constant √3584, to f32, of both programs. -/
abbrev sd : EReal := Ideal.ofBits .f32 0x426F7751#32

/-- √3584 to f32 is a nonzero real number. -/
theorem sd_eq : ∃ r : ℝ, r ≠ 0 ∧ sd = (r : EReal) := by
  refine ⟨15693649 / 262144, by norm_num, ?_⟩
  simp [sd, Ideal.ofBits, Ideal.ieee, -EReal.coe_mul]
  norm_num

/-- The constant 2. -/
theorem two_eq : two = ((2 : ℝ) : EReal) := by
  simp [two, Ideal.ofBits, Ideal.ieee, -EReal.coe_mul]
  norm_num

/-- A query's centre: its mean code, rounded, clipped to `[0, 15]`. -/
def center (sq : EReal) : EReal :=
  min (Ideal.ofBits .f32 0x41700000#32) (max 0 (Ideal.liftRound Ideal.roundHalfEven (Ideal.div sq (Ideal.ofBits .f32 0x45600000#32))))

/-- The centre is a real number, whatever the query. -/
theorem center_real (sq : EReal) : center sq = ((center sq).toReal : EReal) := by
  have h15 : Ideal.ofBits .f32 0x41700000#32 = ((15 : ℝ) : EReal) := by
    simp [Ideal.ofBits, Ideal.ieee, -EReal.coe_mul]
    norm_num
  have h0 : (0 : EReal) ≤ center sq := by
    rw [center, h15]
    exact le_min (by exact_mod_cast (by norm_num : (0 : ℝ) ≤ 15)) (le_max_left _ _)
  have h1 : center sq ≤ ((15 : ℝ) : EReal) := by
    rw [center, h15]
    exact min_le_left _ _
  refine (EReal.coe_toReal ?_ ?_).symm
  · exact ne_of_lt (lt_of_le_of_lt h1 (EReal.coe_lt_top _))
  · exact ne_of_gt (lt_of_lt_of_le EReal.bot_lt_zero h0)

/-- The estimate as the reference computes it. -/
def estR (qd qv sq oo : EReal) (ip cnt : ℕ) : EReal :=
  Ideal.div (Ideal.div (two * qd) sd * ((ip : ℝ) : EReal) + Ideal.div (two * qv) sd * ((cnt : ℝ) : EReal)
    - Ideal.div qd sd * sq - sd * qv) oo

/-- The estimate as the kernel computes it. -/
def estK (qd qv sq oo : EReal) (ip cnt : ℕ) : EReal :=
  Ideal.div (Ideal.div (two * qd) sd * ((ip - (center sq).toReal * cnt : ℝ) : EReal)
    + (Ideal.div (two * qv) sd + Ideal.div (two * qd) sd * center sq) * ((cnt : ℝ) : EReal)
    - (Ideal.div qd sd * sq + sd * qv)) oo

/-- The distance of both programs, from the norms and the estimate. -/
def distOf (dn nq est : EReal) : EReal := dn * dn + nq * nq - two * dn * nq * est

/-- The error bound of both programs. -/
def boundOf (dn nq oo : EReal) : EReal :=
  two * dn * nq * Ideal.div (Ideal.div (Ideal.sqrt (1 - oo * oo)) oo * Ideal.ofBits .f32 0x3FF33333#32) (Ideal.ofBits .f32 0x426F6EC3#32)

/-- The centring cancels: for real `a`, `z` and any `v`. -/
theorem centring (a z ip cnt : ℝ) (hc : 0 ≤ cnt) (v : EReal) :
    (a : EReal) * ((ip - z * cnt : ℝ) : EReal) + (v + (a : EReal) * (z : EReal)) * (cnt : EReal)
      = (a : EReal) * (ip : EReal) + v * (cnt : EReal) := by
  induction v using EReal.rec with
  | coe v => norm_cast; ring
  | top =>
    rcases hc.eq_or_lt with rfl | hc
    · simp
    · rw [← EReal.coe_mul, ← EReal.coe_mul, ← EReal.coe_mul, EReal.top_add_coe, EReal.top_mul_coe_of_pos hc, EReal.coe_add_top, EReal.coe_add_top]
  | bot =>
    rcases hc.eq_or_lt with rfl | hc
    · simp
    · rw [EReal.bot_add, EReal.bot_mul_coe_of_pos hc, EReal.add_bot, EReal.add_bot]

/-- Subtracting a sum is subtracting its terms, when one of them is a real number. -/
theorem sub_add_real (x a b : EReal) (h : (∃ r : ℝ, a = r) ∨ ∃ r : ℝ, b = r) : x - (a + b) = x - a - b := by
  rcases h with ⟨r, rfl⟩ | ⟨r, rfl⟩
  · induction x using EReal.rec <;> induction b using EReal.rec <;>
      simp [sub_eq_add_neg, ← EReal.coe_neg, ← EReal.coe_add]
    ring
  · induction x using EReal.rec <;> induction a using EReal.rec <;>
      simp [sub_eq_add_neg, ← EReal.coe_neg, ← EReal.coe_add]
    ring

/-- A real number over √3584 is a real number. -/
theorem div_sd_real (r : ℝ) : ∃ r' : ℝ, Ideal.div (r : EReal) sd = r' := by
  obtain ⟨d, hd, e⟩ := sd_eq
  exact ⟨r * (1 / d), by rw [e, Ideal.div_coe hd, ← EReal.coe_mul]⟩

/-- The two spellings of the estimate are equal where `q_delta` is real and `q_vl` or `sumq` is. -/
theorem est_eq (qd qv sq oo : EReal) (ip cnt : ℕ) (hqd : ∃ r : ℝ, qd = r) (h : (∃ r : ℝ, qv = r) ∨ ∃ r : ℝ, sq = r) :
    estK qd qv sq oo ip cnt = estR qd qv sq oo ip cnt := by
  obtain ⟨d, rfl⟩ := hqd
  obtain ⟨a, ha⟩ : ∃ a : ℝ, Ideal.div (two * (d : EReal)) sd = a := by
    rw [two_eq, ← EReal.coe_mul]; exact div_sd_real _
  obtain ⟨s, -, hs⟩ := sd_eq
  obtain ⟨e, he⟩ := div_sd_real d
  have hz := center_real sq
  rw [estK, estR, ha]
  generalize (center sq).toReal = z at hz ⊢
  rw [hz, centring a z ip cnt (Nat.cast_nonneg cnt), sub_add_real]
  rcases h with ⟨v, rfl⟩ | ⟨v, rfl⟩
  · exact .inr ⟨s * v, by rw [hs, EReal.coe_mul]⟩
  · exact .inl ⟨e * v, by rw [he, EReal.coe_mul]⟩

end Cert.Rabitq

end
-- ==== Proof.Block.lean ====
/-
  WHAT ONE BLOCK COMPUTES. The body turns a block of 1024 database rows into the right operand of one product: each of the
  8 byte planes masks one bit of every byte of the transposed words, and the masked bytes are read as 8-bit floats, where
  `1` is `1/512`. Here: the product's right operand at an index is the row's bit over 512, and the estimate the body stores
  is the scalar expression over the two product rows.
-/
module

public import proofs.«01_k».proof.Proof.Algebra
public import proofs.«01_k».proof.Proof.Gen.KernelIdeal.Skeleton
public import Idealize.ShloMosaic.Lib.Pointwise
public import Idealize.ShloMosaic.Lib.BitcastPair

@[expose] public section

set_option maxRecDepth 16384

noncomputable section

namespace Cert.KernelIdeal.Rabitq

open Cert.KernelIdeal Cert.KernelIdeal.Gen Idealize.ShloMosaic Idealize.ShloMosaic.TcCoe Idealize.SL.Sem
open Cert.Rabitq

/-- Words read as bytes: byte row `r` is byte `r % 4` of word row `r / 4`. -/
theorem bytes_at (x : IVec S112x1024 32) (r : Fin 448) (y : Fin 1024) (q : ℕ) (hq : q < 8) :
    (bitcast S448x1024 8 x bitcasts_S112x1024_w32_S448x1024_w8 (ix2 r y)).getLsbD q
      = (x (ix2 ⟨(r : ℕ) / 4, by omega⟩ y)).getLsbD (8 * ((r : ℕ) % 4) + q) := by
  rw [bitcast_getLsbD _ _ _ q hq (by norm_num)]
  have hrow : Shape.row S448x1024 (ix2 r y) = r := rfl
  have e1 : (Shape.row S448x1024 (ix2 r y) * 8 + q) % 32 = 8 * ((r : ℕ) % 4) + q := by rw [hrow]; omega
  rw [e1]
  congr 2
  funext a
  apply Fin.ext
  match a with
  | ⟨0, _⟩ =>
    rw [Shape.Bitcasts.srcIdx_row _ _ _ _ _ rfl, hrow]
    show ((r : ℕ) * 8 + q) / 32 = (r : ℕ) / 4
    omega
  | ⟨1, _⟩ =>
    rw [Shape.Bitcasts.srcIdx_other _ _ _ _ _ (show ¬ (1 + 2 = 2) by decide)]
    rfl

/-- What the byte `0000000v` denotes in the 8-bit format: `v / 512`. -/
theorem ofBits_bit (b : BitVec 8) (v : Bool) (h : ∀ q : ℕ, q < 8 → b.getLsbD q = (decide (q = 0) && v)) :
    (Ideal.ofBits .fp8e4m3 b : EReal) = (((v.toNat : ℝ) * (1 / 512) : ℝ) : EReal) := by
  have e : b = BitVec.ofNat 8 v.toNat := by
    apply BitVec.eq_of_getLsbD_eq
    intro q hq
    rw [h q hq]
    cases v
    · simp
    · have : ∀ q < 8, (decide (q = 0) && true) = (BitVec.ofNat 8 true.toNat).getLsbD q := by decide
      exact this q hq
  subst e
  show Ideal.e4m3fn _ = _
  cases v
  · simp [Ideal.e4m3fn, -EReal.coe_mul]
  · simp [Ideal.e4m3fn, -EReal.coe_mul]
    norm_num

/-- The mask keeps bit 0 of each byte. -/
theorem mask_getLsbD (j : ℕ) (hj : j < 4) (q : ℕ) (hq : q < 8) :
    (16843009#32 : BitVec 32).getLsbD (8 * j + q) = decide (q = 0) := by
  have : ∀ j < 4, ∀ q < 8, (16843009#32 : BitVec 32).getLsbD (8 * j + q) = decide (q = 0) := by decide
  exact this j hj q hq

/-- The words of byte plane `p`: bit `p` of each byte of the transposed words, at bit 0 of the byte. -/
abbrev planeWords (x : Vec Ideal S1024x112 .i32) (p : BitVec 32) : IVec S112x1024 32 :=
  andi (shrui (k0_pay3 (F := Ideal) x) (broadcast S112x1024 p)) (broadcast S112x1024 16843009#32)

/-- The bytes of plane `p`, read as floats, at an index: the bit they hold, over 512. -/
theorem plane_at (x : Vec Ideal S1024x112 .i32) (p : Fin 8) (r : Fin 448) (y : Fin 1024) :
    (Ideal.ofBits .fp8e4m3 (bitcast S448x1024 8 (planeWords x (BitVec.ofNat 32 p)) bitcasts_S112x1024_w32_S448x1024_w8 (ix2 r y)) : EReal)
      = ((bit (x (ix2 y ⟨(r : ℕ) / 4, by omega⟩)) (8 * ((r : ℕ) % 4) + p) * (1 / 512) : ℝ) : EReal) := by
  refine ofBits_bit _ _ fun q hq => ?_
  rw [bytes_at _ _ _ q hq]
  pointwise [k0_pay3, planeWords]
  generalize x (ix2 y ⟨(r : ℕ) / 4, _⟩) = u
  have hp : (BitVec.ofNat 32 (p : ℕ)).toNat = p := by simp; omega
  rw [IntOp.andi, IntOp.shrui, hp, if_pos (by omega), BitVec.getLsbD_and, mask_getLsbD _ (by omega) _ hq,
    BitVec.ushiftRight_eq', hp, BitVec.getLsbD_ushiftRight, Bool.and_comm]
  by_cases h0 : q = 0
  · subst h0
    simp [Nat.add_comm]
  · simp [h0]

/-- The right operand at contraction position `k`, database row `y` of the block. -/
abbrev rhsVal (x : Vec Ideal S1024x112 .i32) (y : Fin 1024) (k : Fin 3584) : EReal :=
  ((bit (x (ix2 y (kw k))) (ks k) * (1 / 512) : ℝ) : EReal)

/-- Eight pieces of 448 rows, each holding its plane's bits, are the right operand. -/
theorem pieces (x : Vec Ideal S1024x112 .i32) (y : Fin 1024) (k : Fin 3584) (g : Fin 8 → Fin 448 → EReal)
    (hg : ∀ (p : Fin 8) (r : Fin 448), g p r = ((bit (x (ix2 y ⟨(r : ℕ) / 4, by omega⟩)) (8 * ((r : ℕ) % 4) + p) * (1 / 512) : ℝ) : EReal)) :
    (if h0 : (k : ℕ) < 448 then g 0 ⟨k, h0⟩ else if h1 : (k : ℕ) - 448 < 448 then g 1 ⟨(k : ℕ) - 448, h1⟩
      else if h2 : (k : ℕ) - 448 - 448 < 448 then g 2 ⟨(k : ℕ) - 448 - 448, h2⟩
      else if h3 : (k : ℕ) - 448 - 448 - 448 < 448 then g 3 ⟨(k : ℕ) - 448 - 448 - 448, h3⟩
      else if h4 : (k : ℕ) - 448 - 448 - 448 - 448 < 448 then g 4 ⟨(k : ℕ) - 448 - 448 - 448 - 448, h4⟩
      else if h5 : (k : ℕ) - 448 - 448 - 448 - 448 - 448 < 448 then g 5 ⟨(k : ℕ) - 448 - 448 - 448 - 448 - 448, h5⟩
      else if h6 : (k : ℕ) - 448 - 448 - 448 - 448 - 448 - 448 < 448 then g 6 ⟨(k : ℕ) - 448 - 448 - 448 - 448 - 448 - 448, h6⟩
      else g 7 ⟨(k : ℕ) - 448 - 448 - 448 - 448 - 448 - 448 - 448, by omega⟩) = rhsVal x y k := by
  have key : ∀ (p : Fin 8) (r : Fin 448), (k : ℕ) = p * 448 + r → g p r = rhsVal x y k := by
    intro p r hk
    have e1 : (⟨(r : ℕ) / 4, by omega⟩ : Fin 112) = kw k := Fin.ext (by simp only [kw]; omega)
    have e2 : 8 * ((r : ℕ) % 4) + (p : ℕ) = ks k := by simp only [ks]; omega
    rw [hg, e1, e2]
  split_ifs
  · exact key 0 _ (by simp)
  · exact key 1 _ (by simp; omega)
  · exact key 2 _ (by simp; omega)
  · exact key 3 _ (by simp; omega)
  · exact key 4 _ (by simp; omega)
  · exact key 5 _ (by simp; omega)
  · exact key 6 _ (by simp; omega)
  · exact key 7 _ (by simp; omega)

/-- The constant 512 the body scales its product by. -/
theorem c512 : Ideal.ofBits .f32 0x44000000#32 = ((512 : ℝ) : EReal) := by
  simp [Ideal.ofBits, Ideal.ieee, -EReal.coe_mul]
  norm_num

/-- One row of the scaled product against the block's bits. -/
def prodRow (x : Vec Ideal S1024x112 .i32) (lhs : FVec Ideal S320x3584 .fp8e4m3) (row : Fin 320) (y : Fin 1024) : EReal :=
  (∑ k : Fin 3584, (show EReal from lhs (ix2 row k)) * rhsVal x y k) * ((512 : ℝ) : EReal)

set_option maxHeartbeats 1600000 in
/-- The estimate the body stores, at query `i` and row `y` of the block. -/
theorem pay14_at (x : Vec Ideal S1024x112 .i32) (lhs : FVec Ideal S320x3584 .fp8e4m3) (oo : FVec Ideal S1024 .f32)
    (a b c : FVec Ideal S300x1 .f32) (i : Fin 300) (y : Fin 1024) :
    k0_pay14 (F := Ideal) (k0_pay4 x) (k0_pay5 x) (k0_pay6 x) (k0_pay7 x) (k0_pay8 x) (k0_pay9 x) (k0_pay10 x) (k0_pay11 x) lhs oo a b c (ix2 i y)
      = Ideal.div ((show EReal from a (ix2 i 0)) * prodRow x lhs ⟨i, by omega⟩ y + (show EReal from b (ix2 i 0)) * prodRow x lhs 300 y
          - (show EReal from c (ix2 i 0))) (oo (ix1 y)) := by
  have hg : ∀ (k : Fin 3584), _ = rhsVal x y k := fun k => pieces x y k
    (fun p r => Ideal.ofBits .fp8e4m3 (bitcast S448x1024 8 (planeWords x (BitVec.ofNat 32 p)) bitcasts_S112x1024_w32_S448x1024_w8 (ix2 r y)))
    (fun p r => plane_at x p r y)
  pointwise [k0_pay14, k0_pay13]
  rw [c512]
  refine congrArg₂ Ideal.div (congrArg₂ (· - ·) (congrArg₂ (· + ·) (congrArg₂ (· * ·) rfl ?_) (congrArg₂ (· * ·) rfl ?_)) rfl) rfl
  · exact congrArg (· * _) (Finset.sum_congr rfl fun k _ => congrArg (_ * ·) (hg k))
  · exact congrArg (· * _) (Finset.sum_congr rfl fun k _ => congrArg (_ * ·) (hg k))

end Cert.KernelIdeal.Rabitq

end
-- ==== Proof.HostValue.lean ====
/-
  WHAT THE HOST PREPARES. Before the grid the host unpacks each query's four bit planes into 4-bit codes, takes away a centre (the
  query's mean code, rounded and clipped to 0 … 15), appends a row of ones, and computes three numbers per query. Here: these
  operands as terms of the arguments, that the windows' arrays hold them, and each of them at an index.
-/
module

public import proofs.«01_k».proof.Proof.Algebra
public import proofs.«01_k».proof.Proof.Gen.KernelIdeal.Frame
public import Idealize.ShloMosaic.Lib.Pointwise
public import Idealize.ShloMosaic.Lib.StableHlo.RunRead

@[expose] public section

set_option maxRecDepth 16384

noncomputable section

namespace Cert.KernelIdeal.Rabitq

open Cert.KernelIdeal Cert.KernelIdeal.Gen Idealize.ShloMosaic Idealize.ShloMosaic.TcCoe Idealize.SL.Sem
open Cert.Rabitq

/-- The contents of one of the host's arrays. -/
abbrev Arr (s : Shape) (e : EltTy) := (⟨s, e⟩ : BufTy).Contents (Elt Ideal)

/-- One float, at every query. -/
abbrev perQuery (b : BitVec 32) : Arr S300 .f32 := broadcastInDim S300 ![] bcast_S_S300 (constant (F := Ideal) S_ .f32 b)

/-- `arr / d`, the quotient of each query's value by one float. -/
abbrev over (x : Arr S300 .f32) (b : BitVec 32) : Arr S300 .f32 := Host.divf (F := Ideal) (φ := .f32) x (perQuery b)

/-- The centre of each query: its mean code `sumq / 3584`, rounded to an integer and clipped to `[0, 15]`. -/
def centerT (x4 : Arr S300 .f32) : Arr S300 .f32 :=
  minimumf (F := Ideal) (φ := .f32) (perQuery 0x41700000#32) (maximumf (F := Ideal) (φ := .f32) (perQuery 0x00000000#32) (Host.roundeven (F := Ideal) (φ := .f32) (over x4 0x45600000#32)))

/-- Which bit each (byte plane, byte) names: `8 · byte + plane`. -/
def shiftT : Arr S8x4 .i32 :=
  addi (broadcastInDim S8x4 ![0, 1] bcast_S1x4_S8x4_0_1 (muli (broadcastInDim S1x4 ![] bcast_S_S1x4 (constantI S_ 32 8#32)) (broadcastInDim S1x4 ![1] bcast_S4_S1x4_1 (iotaInDim S4 32 0))))
    (broadcastInDim S8x4 ![0, 1] bcast_S8x1_S8x4_0_1 (broadcastInDim S8x1 ![0] bcast_S8_S8x1_0 (iotaInDim S8 32 0)))

/-- Each plane's bit at each coordinate, in the order (byte plane, word, byte). -/
def bitsT (x0 : Arr S300x4x112 .i32) : Arr S300x4x8x112x4 .i32 :=
  andi (Host.shrui (broadcastInDim S300x4x8x112x4 ![0, 1, 2, 3, 4] bcast_S300x4x1x112x1_S300x4x8x112x4_0_1_2_3_4 (broadcastInDim S300x4x1x112x1 ![0, 1, 3] bcast_S300x4x112_S300x4x1x112x1_0_1_3 x0))
      (broadcastInDim S300x4x8x112x4 ![0, 1, 2, 3, 4] bcast_S1x1x8x1x4_S300x4x8x112x4_0_1_2_3_4 (broadcastInDim S1x1x8x1x4 ![2, 4] bcast_S8x4_S1x1x8x1x4_2_4 shiftT)))
    (broadcastInDim S300x4x8x112x4 ![] bcast_S_S300x4x8x112x4 (constantI S_ 32 1#32))

/-- Each coordinate's code, the planes weighed and summed. -/
def codesT (x0 : Arr S300x4x112 .i32) : Arr S300x8x112x4 .i32 :=
  Host.reduce IntOp.addi (Host.shli (bitsT x0) (broadcastInDim S300x4x8x112x4 ![0, 1, 2, 3, 4] bcast_S1x4x1x1x1_S300x4x8x112x4_0_1_2_3_4 (broadcastInDim S1x4x1x1x1 ![1] bcast_S4_S1x4x1x1x1_1 (iotaInDim S4 32 0))))
    (constantI S_ 32 0#32) reducesTo_S300x4x8x112x4_S300x8x112x4_d1 h_S_

/-- The codes less their query's centre. -/
def centredT (x0 : Arr S300x4x112 .i32) (x4 : Arr S300 .f32) : Arr S300x3584 .f32 :=
  subf (F := Ideal) (φ := .f32) (uitofp (F := Ideal) .f32 (shapeCast S300x3584 (codesT x0) shapeCasts_S300x8x112x4_S300x3584))
    (broadcastInDim S300x3584 ![0, 1] bcast_S300x1_S300x3584_0_1 (broadcastInDim S300x1 ![0] bcast_S300_S300x1_0 (centerT x4)))

/-- The product's left operand: the centred codes, a row of ones, rows of zeros. -/
def lhsT (x0 : Arr S300x4x112 .i32) (x4 : Arr S300 .f32) : Arr S320x3584 .fp8e4m3 :=
  Host.convertf (F := Ideal) (φ := .f32) .fp8e4m3 (concatenate S320x3584 0
    [⟨S300x3584, centredT x0 x4⟩,
      ⟨S1x3584, broadcastInDim S1x3584 ![] bcast_S_S1x3584 (constant (F := Ideal) S_ .f32 0x3F800000#32)⟩,
      ⟨S19x3584, broadcastInDim S19x3584 ![] bcast_S_S19x3584 (constant (F := Ideal) S_ .f32 0x00000000#32)⟩]
    concatenates_S300x3584_S1x3584_S19x3584_S320x3584_d0)

/-- A value per query, as a column. -/
abbrev column (x : Arr S300 .f32) : Arr S300x1 .f32 := broadcastInDim S300x1 ![0] bcast_S300_S300x1_0 x

/-- Twice a value per query, over √3584. -/
abbrev twiceOver (x : Arr S300 .f32) : Arr S300 .f32 := over (mulf (F := Ideal) (φ := .f32) (perQuery 0x40000000#32) x) 0x426F7751#32

/-- The weight of the dot product in the estimate: 2 q_delta / √3584. -/
def aT (x1 : Arr S300 .f32) : Arr S300x1 .f32 := column (twiceOver x1)

/-- The weight of the count: 2 q_vl / √3584, plus the centre times the weight of the dot product. -/
def bT (x1 x2 x4 : Arr S300 .f32) : Arr S300x1 .f32 :=
  column (addf (F := Ideal) (φ := .f32) (twiceOver x2) (mulf (F := Ideal) (φ := .f32) (twiceOver x1) (centerT x4)))

/-- The query's constant term: (q_delta / √3584) sumq + √3584 q_vl. -/
def cT (x1 x2 x4 : Arr S300 .f32) : Arr S300x1 .f32 :=
  column (addf (F := Ideal) (φ := .f32) (mulf (F := Ideal) (φ := .f32) (over x1 0x426F7751#32) x4) (mulf (F := Ideal) (φ := .f32) (perQuery 0x426F7751#32) x2))

section Run

variable (m : (ℓ : Loc nD τ sig) → Buf (Elt Ideal) ℓ) (c : Dev nD)

/-- The array the first window reads is the left operand. -/
theorem V_v34 : V m c main_v34 = lhsT (m ((c : Thread nD τ).loc main_arg0)) (m ((c : Thread nD τ).loc main_arg4)) := by
  unfold_abbrev_sides
  after_reads_simp
  refine congrArg (fun u => Host.convertf (F := Ideal) (φ := .f32) .fp8e4m3 (concatenate S320x3584 0
    [⟨S300x3584, u⟩, ⟨S1x3584, broadcastInDim S1x3584 ![] bcast_S_S1x3584 (constant (F := Ideal) S_ .f32 0x3F800000#32)⟩,
      ⟨S19x3584, broadcastInDim S19x3584 ![] bcast_S_S19x3584 (constant (F := Ideal) S_ .f32 0x00000000#32)⟩]
    concatenates_S300x3584_S1x3584_S19x3584_S320x3584_d0)) (?_ : StableHlo.upto [hostOps0, hostOps0_1, hostOps0_2, hostOps0_3, hostOps0_4].flatten (fun b => m (c, b)) 46 (Proc.tc.devRef main_v30) = centredT _ _)
  after_reads_simp
  rfl

/-- The array the second window reads is the weight of the dot product. -/
theorem V_v39 : V m c main_v39 = aT (m ((c : Thread nD τ).loc main_arg1)) := by
  unfold_abbrev_sides
  after_reads_simp
  rfl

/-- The array the third window reads is the weight of the count. -/
theorem V_v50 : V m c main_v50 = bT (m ((c : Thread nD τ).loc main_arg1)) (m ((c : Thread nD τ).loc main_arg2)) (m ((c : Thread nD τ).loc main_arg4)) := by
  unfold_abbrev_sides
  after_reads_simp
  rfl

/-- The array the fourth window reads is the query's constant term. -/
theorem V_v57 : V m c main_v57 = cT (m ((c : Thread nD τ).loc main_arg1)) (m ((c : Thread nD τ).loc main_arg2)) (m ((c : Thread nD τ).loc main_arg4)) := by
  unfold_abbrev_sides
  after_reads_simp
  rfl

/-- The array the fifth window reads is the queries' norms, as a column. -/
theorem V_v58 : V m c main_v58 = column (m ((c : Thread nD τ).loc main_arg3)) := by
  unfold_abbrev_sides
  after_reads_simp

end Run

/-! ## The terms at an index -/

/-- One weighed plane bit, as a natural number. -/
theorem toNat_weighed (u : BitVec 32) (b : Fin 4) (s t : BitVec 32) (n : ℕ) (hn : s.toNat = n) (hs : n < 32) (ht : t.toNat = b) :
    (IntOp.shli ArithUnit.host (IntOp.andi (IntOp.shrui ArithUnit.host u s) 1#32) t).toNat = bit u n * 2 ^ (b : ℕ) := by
  subst hn
  have hbit : u >>> s.toNat &&& 1#32 = BitVec.ofNat 32 (bit u s.toNat) := by
    apply BitVec.eq_of_getLsbD_eq
    intro q hq
    have h1 : ∀ q < 32, (1#32 : BitVec 32).getLsbD q = decide (q = 0) := by decide
    have h2 : ∀ v : Bool, ∀ q < 32, (BitVec.ofNat 32 v.toNat).getLsbD q = (decide (q = 0) && v) := by decide
    rw [BitVec.getLsbD_and, BitVec.getLsbD_ushiftRight, h1 q hq, bit, h2 _ q hq]
    by_cases h0 : q = 0
    · subst h0; simp
    · simp [h0]
  rw [IntOp.shli, IntOp.andi, IntOp.shrui, if_pos hs, if_pos (by omega), BitVec.ushiftRight_eq', hbit,
    BitVec.shiftLeft_eq', ht, BitVec.toNat_shiftLeft, BitVec.toNat_ofNat, Nat.shiftLeft_eq]
  have h1 := bit_le u s.toNat
  have h2 : 2 ^ (b : ℕ) ≤ 2 ^ 4 := Nat.pow_le_pow_right (by norm_num) b.isLt.le
  rw [Nat.mod_eq_of_lt (by omega : bit u s.toNat < 2 ^ 32)]
  exact Nat.mod_eq_of_lt (lt_of_le_of_lt (Nat.mul_le_mul h1 h2) (by norm_num))

/-- A coordinate's code, computed in 32-bit words, is its natural number. -/
theorem codesT_at (x0 : Arr S300x4x112 .i32) (i : Fin 300) (p : Fin 8) (w : Fin 112) (j : Fin 4) :
    (codesT x0 (ix4 i p w j)).toNat = code (fun b => x0 (ix3 i b w)) (8 * (j : ℕ) + p) := by
  pointwise [codesT, bitsT, shiftT]
  have hshift : (IntOp.addi (IntOp.muli 8#32 (BitVec.ofNat 32 (j : ℕ))) (BitVec.ofNat 32 (p : ℕ))).toNat = 8 * (j : ℕ) + p := by
    rw [IntOp.addi, IntOp.muli, BitVec.toNat_add, BitVec.toNat_mul, BitVec.toNat_ofNat, BitVec.toNat_ofNat, BitVec.toNat_ofNat]
    omega
  have hterm := fun b : Fin 4 => toNat_weighed (x0 (ix3 i b w)) b _ (BitVec.ofNat 32 (b : ℕ)) _ hshift (by omega) (by simp; omega)
  rw [fold_addi, WordSum.toNat_sum]
  · exact Finset.sum_congr rfl fun b _ => hterm b
  · exact lt_of_le_of_lt ((Finset.sum_congr rfl fun b _ => hterm b).le.trans (code_le (fun b => x0 (ix3 i b w)) _)) (by norm_num)

/-- The centre at a query. -/
theorem centerT_at (x4 : Arr S300 .f32) (i : Fin 300) : centerT x4 (ix1 i) = center (x4 (ix1 i)) := by
  pointwise [centerT, center]

/-- The left operand's query rows: the coordinate's code less the query's centre, a real number. -/
theorem lhsT_query (x0 : Arr S300x4x112 .i32) (x4 : Arr S300 .f32) (i : Fin 300) (k : Fin 3584) :
    lhsT x0 x4 (ix2 ⟨i, by omega⟩ k)
      = (((code (fun b => x0 (ix3 i b (kw k))) (ks k) : ℝ) - (center (x4 (ix1 i))).toReal : ℝ) : EReal) := by
  have hk : (⟨(k : ℕ) / 4 % 112, by omega⟩ : Fin 112) = kw k := Fin.ext (by simp only [kw]; omega)
  pointwise [lhsT, centredT]
  refine (congrArg₂ (· - ·) ?_ ((centerT_at x4 i).trans (center_real _))).trans (EReal.coe_sub _ _).symm
  show (((codesT x0 (ix4 i _ _ _)).toNat : ℝ) : EReal) = _
  rw [codesT_at, hk]
  rfl

/-- The left operand's row 300: ones. -/
theorem lhsT_ones (x0 : Arr S300x4x112 .i32) (x4 : Arr S300 .f32) (k : Fin 3584) :
    lhsT x0 x4 (ix2 300 k) = ((1 : ℝ) : EReal) := by
  pointwise [lhsT]
  exact EReal.coe_one.symm

/-- The weight of the dot product at a query. -/
theorem aT_at (x1 : Arr S300 .f32) (i : Fin 300) : aT x1 (ix2 i 0) = Ideal.div (two * x1 (ix1 i)) sd := by
  pointwise [aT]

/-- The weight of the count at a query. -/
theorem bT_at (x1 x2 x4 : Arr S300 .f32) (i : Fin 300) :
    bT x1 x2 x4 (ix2 i 0) = Ideal.div (two * x2 (ix1 i)) sd + Ideal.div (two * x1 (ix1 i)) sd * center (x4 (ix1 i)) := by
  pointwise [bT, centerT, center]

/-- The constant term at a query. -/
theorem cT_at (x1 x2 x4 : Arr S300 .f32) (i : Fin 300) :
    cT x1 x2 x4 (ix2 i 0) = Ideal.div (x1 (ix1 i)) sd * x4 (ix1 i) + sd * x2 (ix1 i) := by
  pointwise [cT]

/-- A column at a query. -/
theorem column_at (x3 : Arr S300 .f32) (i : Fin 300) : column x3 (ix2 i 0) = x3 (ix1 i) := by
  pointwise

end Cert.KernelIdeal.Rabitq

end
-- ==== Proof.KernelValue.lean ====
/-
  WHAT THE ARRAYS HOLD. Grid point `t` reads the whole query operands and rows `1024 t … 1024 t + 1023` of the database,
  and writes columns `1024 t … 1024 t + 1023` of the three results. Here: the three result arrays after the kernel's run, as
  one scalar expression of the arguments at every query and database row.
-/
module

public import proofs.«01_k».proof.Proof.Block
public import proofs.«01_k».proof.Proof.HostValue
public import proofs.«01_k».proof.Proof.Gen.KernelIdeal.Value
public import Idealize.ShloMosaic.Lib.Pipeline.ValueKit

@[expose] public section

set_option maxRecDepth 16384

noncomputable section

namespace Cert.KernelIdeal.Rabitq

open Cert.KernelIdeal Cert.KernelIdeal.Gen Idealize.ShloMosaic Idealize.ShloMosaic.TcCoe Idealize.SL.Sem
open Idealize.ShloMosaic.Pipeline (Dat)
open Cert.Rabitq

/-! ## One block's three stores, at an index -/

/-- The stored estimate is the payload of the loaded blocks. -/
theorem pay18_eq (x0 : Vec Ideal S320x3584 .fp8e4m3) (x1 x2 x3 x4 : Vec Ideal S300x1 .f32) (x5 : Vec Ideal S1024x112 .i32) (x6 x7 : Vec Ideal S1024 .f32) :
    k0_pay18 x0 x1 x2 x3 x4 x5 x6 x7
      = k0_pay14 (k0_pay4 x5) (k0_pay5 x5) (k0_pay6 x5) (k0_pay7 x5) (k0_pay8 x5) (k0_pay9 x5) (k0_pay10 x5) (k0_pay11 x5) x0 x7 x1 x2 x3 := by
  unfold k0_pay18
  frame_out

/-- The third store is the estimate. -/
theorem out10_eq (x0 : Vec Ideal S320x3584 .fp8e4m3) (x1 x2 x3 x4 : Vec Ideal S300x1 .f32) (x5 : Vec Ideal S1024x112 .i32) (x6 x7 : Vec Ideal S1024 .f32) :
    out0_10 x0 x1 x2 x3 x4 x5 x6 x7 = k0_pay18 x0 x1 x2 x3 x4 x5 x6 x7 := by
  frame_out

/-- The first store is the distance of the stored estimate. -/
theorem out8_at (x0 : Vec Ideal S320x3584 .fp8e4m3) (x1 x2 x3 x4 : Vec Ideal S300x1 .f32) (x5 : Vec Ideal S1024x112 .i32) (x6 x7 : Vec Ideal S1024 .f32)
    (i : Fin 300) (y : Fin 1024) :
    out0_8 x0 x1 x2 x3 x4 x5 x6 x7 (ix2 i y) = distOf (x6 (ix1 y)) (x4 (ix2 i 0)) (out0_10 x0 x1 x2 x3 x4 x5 x6 x7 (ix2 i y)) := by
  rw [out10_eq]
  unfold out0_8 k0_pay19
  generalize k0_pay18 x0 x1 x2 x3 x4 x5 x6 x7 = e
  frame_out
  pointwise [k0_pay1, k0_pay12, k0_pay15, k0_pay16, distOf]

/-- The second store is the error bound. -/
theorem out9_at (x0 : Vec Ideal S320x3584 .fp8e4m3) (x1 x2 x3 x4 : Vec Ideal S300x1 .f32) (x5 : Vec Ideal S1024x112 .i32) (x6 x7 : Vec Ideal S1024 .f32)
    (i : Fin 300) (y : Fin 1024) :
    out0_9 x0 x1 x2 x3 x4 x5 x6 x7 (ix2 i y) = boundOf (x6 (ix1 y)) (x4 (ix2 i 0)) (x7 (ix1 y)) := by
  unfold out0_9 k0_pay19
  frame_out
  pointwise [k0_pay2, k0_pay12, k0_pay13, k0_pay15, k0_pay16, k0_pay17, boundOf]

/-- A product row whose left operand's entries are known. -/
theorem prodRow_of (x : Vec Ideal S1024x112 .i32) (lhs : FVec Ideal S320x3584 .fp8e4m3) (row : Fin 320) (y : Fin 1024) (f : Fin 3584 → EReal)
    (h : ∀ k, lhs (ix2 row k) = f k) : prodRow x lhs row y = (∑ k : Fin 3584, f k * rhsVal x y k) * ((512 : ℝ) : EReal) :=
  congrArg (· * _) (Finset.sum_congr rfl fun k _ => congrArg (· * _) (h k))

/-- One product row of a centred query is its dot product less the centre times the row's count. -/
theorem prodRow_query (x0 : Arr S300x4x112 .i32) (x4 : Arr S300 .f32) (x : Vec Ideal S1024x112 .i32) (i : Fin 300) (y : Fin 1024) :
    prodRow x (lhsT x0 x4) ⟨i, by omega⟩ y
      = ((ipN (fun b w => x0 (ix3 i b w)) (fun w => x (ix2 y w)) - (center (x4 (ix1 i))).toReal * cntN (fun w => x (ix2 y w)) : ℝ) : EReal) :=
  (prodRow_of x _ _ y _ (lhsT_query x0 x4 i)).trans
    (sum_centred (fun b w => x0 (ix3 i b w)) (fun w => x (ix2 y w)) (center (x4 (ix1 i))).toReal)

/-- The product row of the ones is the database row's count. -/
theorem prodRow_ones (x0 : Arr S300x4x112 .i32) (x4 : Arr S300 .f32) (x : Vec Ideal S1024x112 .i32) (y : Fin 1024) :
    prodRow x (lhsT x0 x4) 300 y = ((cntN (fun w => x (ix2 y w)) : ℝ) : EReal) :=
  (prodRow_of x _ 300 y (fun _ => ((1 : ℝ) : EReal)) fun k => lhsT_ones x0 x4 k).trans (sum_ones (fun w => x (ix2 y w)))

/-- The third store over the host's operands: the kernel's estimate. -/
theorem out10_at (x0 : Arr S300x4x112 .i32) (x1 x2 x4 : Arr S300 .f32) (n : Vec Ideal S300x1 .f32) (x5 : Vec Ideal S1024x112 .i32) (x6 x7 : Vec Ideal S1024 .f32)
    (i : Fin 300) (y : Fin 1024) :
    out0_10 (lhsT x0 x4) (aT x1) (bT x1 x2 x4) (cT x1 x2 x4) n x5 x6 x7 (ix2 i y)
      = estK (x1 (ix1 i)) (x2 (ix1 i)) (x4 (ix1 i)) (x7 (ix1 y)) (ipN (fun b w => x0 (ix3 i b w)) (fun w => x5 (ix2 y w))) (cntN fun w => x5 (ix2 y w)) := by
  rw [out10_eq, pay18_eq]
  refine (pay14_at x5 (lhsT x0 x4) x7 (aT x1) (bT x1 x2 x4) (cT x1 x2 x4) i y).trans ?_
  rw [prodRow_query, prodRow_ones, aT_at, bT_at, cT_at]
  rfl

/-! ## The blocks a grid point reads -/

variable (m : (ℓ : Loc nD τ sig) → Buf (Elt Ideal) ℓ)

/-- The index maps of the windows, at every grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![t.val, 0] ∧ win0_6.index t = ![t.val] ∧ win0_7.index t = ![t.val]
    ∧ win0_8.index t = ![0, t.val] ∧ win0_9.index t = ![0, t.val] ∧ win0_10.index t = ![0, t.val] :=
  (by decide +kernel : ∀ t : Fin grid0.N, _)

/-- Row `y` of point `t`'s database block. -/
abbrev dbRow (t : Fin cfg0.N) (y : Fin 1024) : Fin 20480 :=
  ⟨t.val * 1024 + y, by have := t.isLt; have h : cfg0.N = 20 := (by decide); omega⟩

/-- Window 0: the left operand. -/
theorem iblk0 (c : Dev nD) (t : Fin cfg0.N) : iblk m c 0 t = lhsT (m ((c : Thread nD τ).loc main_arg0)) (m ((c : Thread nD τ).loc main_arg4)) := by
  rw [← V_v34 m c]
  funext y
  blk_ext [iblk, idx t]

/-- Window 1: the weight of the dot product. -/
theorem iblk1 (c : Dev nD) (t : Fin cfg0.N) : iblk m c 1 t = aT (m ((c : Thread nD τ).loc main_arg1)) := by
  rw [← V_v39 m c]
  funext y
  blk_ext [iblk, idx t]

/-- Window 2: the weight of the count. -/
theorem iblk2 (c : Dev nD) (t : Fin cfg0.N) : iblk m c 2 t
    = bT (m ((c : Thread nD τ).loc main_arg1)) (m ((c : Thread nD τ).loc main_arg2)) (m ((c : Thread nD τ).loc main_arg4)) := by
  rw [← V_v50 m c]
  funext y
  blk_ext [iblk, idx t]

/-- Window 3: the query's constant term. -/
theorem iblk3 (c : Dev nD) (t : Fin cfg0.N) : iblk m c 3 t
    = cT (m ((c : Thread nD τ).loc main_arg1)) (m ((c : Thread nD τ).loc main_arg2)) (m ((c : Thread nD τ).loc main_arg4)) := by
  rw [← V_v57 m c]
  funext y
  blk_ext [iblk, idx t]

/-- Window 4: the queries' norms. -/
theorem iblk4 (c : Dev nD) (t : Fin cfg0.N) : iblk m c 4 t = column (m ((c : Thread nD τ).loc main_arg3)) := by
  rw [← V_v58 m c]
  funext y
  blk_ext [iblk, idx t]

/-- Window 5: the point's database codes. -/
theorem iblk5 (c : Dev nD) (t : Fin cfg0.N) (y : Fin 1024) (w : Fin 112) :
    iblk m c 5 t (ix2 y w) = m ((c : Thread nD τ).loc main_arg5) (ix2 (dbRow t y) w) := by
  blk_ext [iblk, V_main_arg5, idx t]

/-- Window 6: the point's database norms. -/
theorem iblk6 (c : Dev nD) (t : Fin cfg0.N) (y : Fin 1024) : iblk m c 6 t (ix1 y) = m ((c : Thread nD τ).loc main_arg6) (ix1 (dbRow t y)) := by
  blk_ext [iblk, V_main_arg6, idx t]

/-- Window 7: the point's quantisation factors. -/
theorem iblk7 (c : Dev nD) (t : Fin cfg0.N) (y : Fin 1024) : iblk m c 7 t (ix1 y) = m ((c : Thread nD τ).loc main_arg7) (ix1 (dbRow t y)) := by
  blk_ext [iblk, V_main_arg7, idx t]

/-! ## The result arrays after the run -/

/-- The estimate at query `i`, database row `n`. -/
def estAt (c : Dev nD) (i : Fin 300) (n : Fin 20480) : EReal :=
  estK (m ((c : Thread nD τ).loc main_arg1) (ix1 i)) (m ((c : Thread nD τ).loc main_arg2) (ix1 i)) (m ((c : Thread nD τ).loc main_arg4) (ix1 i))
    (m ((c : Thread nD τ).loc main_arg7) (ix1 n)) (ipN (fun b w => m ((c : Thread nD τ).loc main_arg0) (ix3 i b w)) fun w => m ((c : Thread nD τ).loc main_arg5) (ix2 n w))
    (cntN fun w => m ((c : Thread nD τ).loc main_arg5) (ix2 n w))

/-- The estimate grid point `t` stores. -/
theorem estBlock_at (c : Dev nD) (t : Fin cfg0.N) (i : Fin 300) (y : Fin 1024) :
    out0_10 (iblk m c 0 t) (iblk m c 1 t) (iblk m c 2 t) (iblk m c 3 t) (iblk m c 4 t) (iblk m c 5 t) (iblk m c 6 t) (iblk m c 7 t) (ix2 i y)
      = estAt m c i (dbRow t y) := by
  rw [iblk0, iblk1, iblk2, iblk3]
  refine (out10_at _ _ _ _ _ _ _ _ i y).trans ?_
  rw [iblk7]
  simp only [iblk5]
  rfl

/-- The estimates' array after the run. -/
theorem est_final (c : Dev nD) : (dats m 0 c).arrAt 10 cfg0.N = fun j : S300x20480.Idx => estAt m c (j 0) (j 1) := by
  refine (dats m 0 c).arrAt_eq_of_covers 10 _ (by decide +kernel) fun t _ y => ?_
  blk_simp
  rw [after0_10]
  have e : ((cfg0.win 10).blk t).view.emb y = ix2 (y 0) (dbRow t (y 1)) := by blk_ext [idx t]
  rw [e]
  exact (congrArg _ (eq_ix2 (n0 := 300) (n1 := 1024) y)).trans (estBlock_at m c t (y 0) (y 1))

/-- The distance at query `i`, database row `n`. -/
def distAt (c : Dev nD) (i : Fin 300) (n : Fin 20480) : EReal :=
  distOf (m ((c : Thread nD τ).loc main_arg6) (ix1 n)) (m ((c : Thread nD τ).loc main_arg3) (ix1 i)) (estAt m c i n)

/-- The distance grid point `t` stores. -/
theorem distBlock_at (c : Dev nD) (t : Fin cfg0.N) (i : Fin 300) (y : Fin 1024) :
    out0_8 (iblk m c 0 t) (iblk m c 1 t) (iblk m c 2 t) (iblk m c 3 t) (iblk m c 4 t) (iblk m c 5 t) (iblk m c 6 t) (iblk m c 7 t) (ix2 i y)
      = distAt m c i (dbRow t y) := by
  refine (out8_at _ _ _ _ _ _ _ _ i y).trans ?_
  rw [estBlock_at, iblk6, iblk4, column_at]
  rfl

/-- The distances' array after the run. -/
theorem dist_final (c : Dev nD) : (dats m 0 c).arrAt 8 cfg0.N = fun j : S300x20480.Idx => distAt m c (j 0) (j 1) := by
  refine (dats m 0 c).arrAt_eq_of_covers 8 _ (by decide +kernel) fun t _ y => ?_
  blk_simp
  rw [after0_8]
  have e : ((cfg0.win 8).blk t).view.emb y = ix2 (y 0) (dbRow t (y 1)) := by blk_ext [idx t]
  rw [e]
  exact (congrArg _ (eq_ix2 (n0 := 300) (n1 := 1024) y)).trans (distBlock_at m c t (y 0) (y 1))

/-- The error bound at query `i`, database row `n`. -/
def boundAt (c : Dev nD) (i : Fin 300) (n : Fin 20480) : EReal :=
  boundOf (m ((c : Thread nD τ).loc main_arg6) (ix1 n)) (m ((c : Thread nD τ).loc main_arg3) (ix1 i)) (m ((c : Thread nD τ).loc main_arg7) (ix1 n))

/-- The error bound grid point `t` stores. -/
theorem boundBlock_at (c : Dev nD) (t : Fin cfg0.N) (i : Fin 300) (y : Fin 1024) :
    out0_9 (iblk m c 0 t) (iblk m c 1 t) (iblk m c 2 t) (iblk m c 3 t) (iblk m c 4 t) (iblk m c 5 t) (iblk m c 6 t) (iblk m c 7 t) (ix2 i y)
      = boundAt m c i (dbRow t y) := by
  refine (out9_at _ _ _ _ _ _ _ _ i y).trans ?_
  rw [iblk7, iblk6, iblk4, column_at]
  rfl

/-- The error bounds' array after the run. -/
theorem bound_final (c : Dev nD) : (dats m 0 c).arrAt 9 cfg0.N = fun j : S300x20480.Idx => boundAt m c (j 0) (j 1) := by
  refine (dats m 0 c).arrAt_eq_of_covers 9 _ (by decide +kernel) fun t _ y => ?_
  blk_simp
  rw [after0_9]
  have e : ((cfg0.win 9).blk t).view.emb y = ix2 (y 0) (dbRow t (y 1)) := by blk_ext [idx t]
  rw [e]
  exact (congrArg _ (eq_ix2 (n0 := 300) (n1 := 1024) y)).trans (boundBlock_at m c t (y 0) (y 1))

end Cert.KernelIdeal.Rabitq

end
-- ==== Proof.RefValue.lean ====
/-
  WHAT THE REFERENCE COMPUTES. Its three results at a query and a database row: the two integer sums are the natural
  numbers of `Codes`, and the rest is scalar arithmetic over the extended reals.
-/
module

public import proofs.«01_k».proof.Proof.Algebra
public import proofs.«01_k».proof.Proof.Gen.ReferenceIdeal.Read
public import Idealize.ShloMosaic.Lib.Pointwise

@[expose] public section

set_option maxRecDepth 16384

noncomputable section

namespace Cert.ReferenceIdeal.Rabitq

open Cert.Rabitq Cert.ReferenceIdeal Cert.ReferenceIdeal.Gen Cert.ReferenceIdeal.Read Idealize.ShloMosaic Idealize.ShloMosaic.TcCoe Idealize.SL.Sem

/-- The contents of one of the host's arrays. -/
abbrev Arr (s : Shape) (e : EltTy) := (⟨s, e⟩ : BufTy).Contents (Elt Ideal)

/-- The reference's bit count of a database row. -/
theorem v17_at (x5 : Arr S20480x112 .i32) (n : Fin 20480) :
    val_main_v17 (F := Ideal) x5 (ix1 n) = ∑ w : Fin 112, IntOp.ctpop (x5 (ix2 n w)) := by
  pointwise [val_main_v17, val_main_v16, val_main_v15, val_main_c_2, id_eq]
  exact fold_addi _ _

/-- The reference's weighted plane counts of a query and a database row. -/
theorem v14_at (x0 : Arr S300x4x112 .i32) (x5 : Arr S20480x112 .i32) (i : Fin 300) (n : Fin 20480) :
    val_main_v14 (F := Ideal) x0 x5 (ix2 i n)
      = ∑ b : Fin 4, (∑ w : Fin 112, IntOp.ctpop (x0 (ix3 i b w) &&& x5 (ix2 n w))) * IntOp.shli ArithUnit.host 1#32 (BitVec.ofNat 32 b) := by
  pointwise [val_main_v14, val_main_v13, val_main_v12, val_main_v11, val_main_v10, val_main_v9, val_main_v8, val_main_v7, val_main_v6,
    val_main_v5, val_main_v4, val_main_v3, val_main_v2, val_main_v1, val_main_v0, val_main_c, val_main_c_0, val_main_c_1, id_eq]
  simp only [fold_addi]
  rfl

/-- A word below `2^31`, read signed, is its natural number. -/
theorem sitofp_nat (v : BitVec 32) (n : ℕ) (hv : v.toNat = n) (hn : n < 2 ^ 31) :
    FloatOps.sitofp (F := Ideal) .f32 v = (((n : ℕ) : ℝ) : EReal) := by
  show (((v.toInt : ℤ) : ℝ) : EReal) = _
  rw [BitVec.toInt_eq_toNat_of_lt (by omega), hv]
  simp

/-- The bit count as a float. -/
theorem cnt_at (x5 : Arr S20480x112 .i32) (n : Fin 20480) :
    FloatOps.sitofp (F := Ideal) .f32 (val_main_v17 (F := Ideal) x5 (ix1 n)) = ((cntN (fun w => x5 (ix2 n w)) : ℝ) : EReal) := by
  rw [v17_at]
  exact sitofp_nat _ _ (sum_ctpop fun w => x5 (ix2 n w)) (lt_of_le_of_lt (cntN_le _) (by norm_num))

/-- The inner product as a float. -/
theorem ip_at (x0 : Arr S300x4x112 .i32) (x5 : Arr S20480x112 .i32) (i : Fin 300) (n : Fin 20480) :
    FloatOps.sitofp (F := Ideal) .f32 (val_main_v14 (F := Ideal) x0 x5 (ix2 i n))
      = ((ipN (fun b w => x0 (ix3 i b w)) (fun w => x5 (ix2 n w)) : ℝ) : EReal) := by
  rw [v14_at]
  refine sitofp_nat _ _ (sum_planes (fun b w => x0 (ix3 i b w)) (fun w => x5 (ix2 n w)) _ fun b => ?_) (lt_of_le_of_lt (ipN_le _ _) (by norm_num))
  fin_cases b <;> rfl

/-- The reference's estimated inner product. -/
theorem est_at (x0 : Arr S300x4x112 .i32) (x1 x2 x4 : Arr S300 .f32) (x5 : Arr S20480x112 .i32) (x7 : Arr S20480 .f32) (i : Fin 300) (n : Fin 20480) :
    val_main_v50 (F := Ideal) x0 x1 x2 x4 x5 x7 (ix2 i n)
      = estR (x1 (ix1 i)) (x2 (ix1 i)) (x4 (ix1 i)) (x7 (ix1 n)) (ipN (fun b w => x0 (ix3 i b w)) (fun w => x5 (ix2 n w))) (cntN fun w => x5 (ix2 n w)) := by
  rw [estR, ← ip_at, ← cnt_at]
  pointwise [val_main_cst, val_main_v20, val_main_v21, val_main_cst_3, val_main_v22, val_main_v23, val_main_v24, val_main_v25, val_main_v18,
    val_main_v26, val_main_cst_4, val_main_v27, val_main_v28, val_main_cst_5, val_main_v29, val_main_v30, val_main_v31, val_main_v33,
    val_main_v19, val_main_v32, val_main_v34, val_main_v35, val_main_v36, val_main_cst_6, val_main_v37, val_main_v38, val_main_v39,
    val_main_v40, val_main_v41, val_main_v42, val_main_cst_7, val_main_v43, val_main_v44, val_main_v45, val_main_v46, val_main_v47,
    val_main_v48, val_main_v49, val_main_v50]

/-- The reference's distance, from its estimate. -/
theorem dist_at (x0 : Arr S300x4x112 .i32) (x1 x2 x3 x4 : Arr S300 .f32) (x5 : Arr S20480x112 .i32) (x6 x7 : Arr S20480 .f32) (i : Fin 300) (n : Fin 20480) :
    val_main_v66 (F := Ideal) x0 x1 x2 x3 x4 x5 x6 x7 (ix2 i n)
      = distOf (x6 (ix1 n)) (x3 (ix1 i)) (val_main_v50 (F := Ideal) x0 x1 x2 x4 x5 x7 (ix2 i n)) := by
  pointwise [distOf, val_main_v51, val_main_v52, val_main_v55, val_main_v53, val_main_v54, val_main_v56, val_main_v57, val_main_cst_8, val_main_v59,
    val_main_v58, val_main_v60, val_main_v62, val_main_v61, val_main_v63, val_main_v64, val_main_v65, val_main_v66]

/-- The reference's error bound. -/
theorem bound_at (x3 : Arr S300 .f32) (x6 x7 : Arr S20480 .f32) (i : Fin 300) (n : Fin 20480) :
    val_main_v85 (F := Ideal) x3 x6 x7 (ix2 i n) = boundOf (x6 (ix1 n)) (x3 (ix1 i)) (x7 (ix1 n)) := by
  pointwise [boundOf, val_main_cst_12, val_main_v77, val_main_v76, val_main_v78, val_main_v80, val_main_v79, val_main_v81, val_main_v82, val_main_cst_9,
    val_main_v68, val_main_v67, val_main_v69, val_main_v70, val_main_v71, val_main_cst_10, val_main_v72, val_main_v73, val_main_cst_11,
    val_main_v74, val_main_v75, val_main_v83, val_main_v84, val_main_v85]

end Cert.ReferenceIdeal.Rabitq

end
-- ==== Proof.Finite.lean ====
/-
  THE PRECONDITION, READ. The predicate `finite_query` at a query says that `q_delta` is finite and that `q_vl` or `sumq` is.
  Here: where it is all ones, `q_delta` is a real number at every query, and so is `q_vl` or `sumq`.
-/
module

public import proofs.«01_k».proof.Pre_finite_query
public import Idealize.ShloMosaic.Lib.Pointwise

@[expose] public section

noncomputable section

namespace Cert.Pre_finite_query.Rabitq

open Cert.Pre_finite_query Idealize.ShloMosaic

/-- The predicate's stated facts hold. -/
theorem facts : Facts := ⟨by decide⟩

/-- A value whose absolute value is below infinity is a real number. -/
theorem real_of_abs_lt (x : EReal) (h : Scalar.cmpf (F := Ideal) (φ := .f32) .olt (max x (-x)) (Ideal.ofBits .f32 0x7F800000#32) = 1#1) : ∃ r : ℝ, x = r := by
  have hinf : Ideal.ofBits .f32 0x7F800000#32 = ⊤ := by
    simp [Ideal.ofBits, Ideal.ieee]
  rw [hinf] at h
  induction x using EReal.rec with
  | coe r => exact ⟨r, rfl⟩
  | bot => simp [Ideal.cmp] at h
  | top => simp [Ideal.cmp] at h

/-- What the predicate says of query `i`. -/
theorem fn_at [Facts] (x0 : IVec S300x4x112 32) (x1 x2 x3 x4 : FVec Ideal S300 .f32) (x5 : IVec S20480x112 32) (x6 x7 : FVec Ideal S20480 .f32)
    (h : fn (F := Ideal) x0 x1 x2 x3 x4 x5 x6 x7 = fun _ => 1#1) (i : Fin 300) :
    (∃ r : ℝ, (x1 (ix1 i) : EReal) = r) ∧ ((∃ r : ℝ, (x2 (ix1 i) : EReal) = r) ∨ ∃ r : ℝ, (x4 (ix1 i) : EReal) = r) := by
  have e := congrFun h (ix1 i)
  have split : ∀ a b c : BitVec 1, IntOp.andi a (IntOp.ori b c) = 1#1 → a = 1#1 ∧ (b = 1#1 ∨ c = 1#1) := by decide
  obtain ⟨h1, h2⟩ := split _ _ _ e
  exact ⟨real_of_abs_lt _ h1, h2.imp (real_of_abs_lt _) (real_of_abs_lt _)⟩

end Cert.Pre_finite_query.Rabitq

end
-- ==== Proof.Equation.lean ====
/-
  THE EQUATION. At arguments where `finite_query` is all ones, the kernel's three result arrays are the reference's three
  results: the counts are the same naturals, the centring cancels, and the distance and the bound are the same expression.
-/
module

public import proofs.«01_k».proof.Proof.KernelValue
public import proofs.«01_k».proof.Proof.RefValue
public import proofs.«01_k».proof.Proof.Finite

@[expose] public section

noncomputable section

namespace Cert.KernelIdeal.Rabitq

open Cert.KernelIdeal Cert.KernelIdeal.Gen Idealize.ShloMosaic Idealize.ShloMosaic.TcCoe Idealize.SL.Sem
open Cert.Rabitq
open Cert.ReferenceIdeal.Read (val_main_v50 val_main_v66 val_main_v85)

variable (m : (ℓ : Loc nD τ sig) → Buf (Elt Ideal) ℓ) (c : Dev nD)

variable [Cert.Pre_finite_query.Facts]
  (h : Cert.Pre_finite_query.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) = fun _ => 1#1)

include h

/-- The estimates are the reference's. -/
theorem est_ref (i : Fin 300) (n : Fin 20480) :
    val_main_v50 (F := Ideal) (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg7)) (ix2 i n) = estAt m c i n := by
  obtain ⟨h1, h2⟩ := Cert.Pre_finite_query.Rabitq.fn_at _ _ _ _ _ _ _ _ h i
  refine (Cert.ReferenceIdeal.Rabitq.est_at _ _ _ _ _ _ i n).trans (est_eq _ _ _ _ _ _ h1 h2).symm

/-- The distances are the reference's. -/
theorem dist_ref (i : Fin 300) (n : Fin 20480) :
    val_main_v66 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix2 i n) = distAt m c i n :=
  (Cert.ReferenceIdeal.Rabitq.dist_at _ _ _ _ _ _ _ _ i n).trans (congrArg (distOf _ _) (est_ref m c h i n))

omit h in
/-- The bounds are the reference's, at any arguments. -/
theorem bound_ref (i : Fin 300) (n : Fin 20480) :
    val_main_v85 (F := Ideal) (m ((c : Thread nD τ).loc main_arg3)) (m ((c : Thread nD τ).loc main_arg6)) (m ((c : Thread nD τ).loc main_arg7)) (ix2 i n)
      = boundAt m c i n :=
  Cert.ReferenceIdeal.Rabitq.bound_at _ _ _ i n

end Cert.KernelIdeal.Rabitq

end
-- ==== Proof.lean ====
/-
  THE ASSEMBLY. The frames are the generated ones (the reference's is read off its run), the ideal program rewrites nothing,
  and the algebraic claim is the two runs, their results joined index by index by Proof/Equation.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel runs, keeps its arguments and ends with every counter at zero. -/
theorem frame_p : Cert.quiescent_Kernel := fun m ρ _ => Cert.Kernel.Gen.frame m ρ

/-- So does its ideal program. -/
theorem frame_pi : Cert.quiescent_KernelIdeal := fun m ρ _ => Cert.KernelIdeal.Gen.frame m ρ

/-- The reference runs and keeps its arguments; it declares no semaphore, so every counter is zero. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From arguments where `finite_query` is all ones, the ideal kernel and the reference end with equal distances, error bounds
    and inner-product estimates, element by element over the extended reals. -/
theorem algebraic (hPre : Cert.Pre_finite_query.Facts) : Cert.algebraic_KernelIdeal_ReferenceIdeal_pre_finite_query := by
  intro m ρ m' ρ' hpre hag
  refine ⟨fun c => fun j : Cert.KernelIdeal.S300x20480.Idx => Cert.KernelIdeal.Rabitq.distAt m c (j 0) (j 1),
    fun c => fun j : Cert.KernelIdeal.S300x20480.Idx => Cert.KernelIdeal.Rabitq.boundAt m c (j 0) (j 1),
    fun c => fun j : Cert.KernelIdeal.S300x20480.Idx => Cert.KernelIdeal.Rabitq.estAt m c (j 0) (j 1), ?_, ?_⟩
  · refine (θ_run Cert.KernelIdeal.defs _ _).mono (fun r h c => ?_) (Cert.KernelIdeal.Value.run_blocks (F := Ideal) m ρ)
    obtain ⟨h0, h1, h2, hargs⟩ := h c
    exact ⟨h0.trans (Cert.KernelIdeal.Rabitq.dist_final m c), h1.trans (Cert.KernelIdeal.Rabitq.bound_final m c),
      h2.trans (Cert.KernelIdeal.Rabitq.est_final m c), hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7⟩ := hag c
    refine ⟨h0.trans ((Cert.ReferenceIdeal.Read.val_main_v66_eq _ _ _ _ _ _ _ _).trans ?_),
      h1.trans ((Cert.ReferenceIdeal.Read.val_main_v85_eq _ _ _).trans ?_),
      h2.trans ((Cert.ReferenceIdeal.Read.val_main_v50_eq _ _ _ _ _ _).trans ?_), hargs⟩
    · rw [a0, a1, a2, a3, a4, a5, a6, a7]
      funext j
      exact (congrArg _ (eq_ix2 (n0 := 300) (n1 := 20480) j)).trans (Cert.KernelIdeal.Rabitq.dist_ref m c (hpre c) (j 0) (j 1))
    · rw [a3, a6, a7]
      funext j
      exact (congrArg _ (eq_ix2 (n0 := 300) (n1 := 20480) j)).trans (Cert.KernelIdeal.Rabitq.bound_ref m c (j 0) (j 1))
    · rw [a0, a1, a2, a4, a5, a7]
      funext j
      exact (congrArg _ (eq_ix2 (n0 := 300) (n1 := 20480) j)).trans (Cert.KernelIdeal.Rabitq.est_ref m c (hpre c) (j 0) (j 1))

/-- Everything the certificate claims. -/
theorem claim : Cert.Claim :=
  ⟨Cert.Kernel.Gen.facts, Cert.KernelIdeal.Gen.facts, Cert.ReferenceIdeal.Gen.facts, Cert.Pre_finite_query.Rabitq.facts,
    frame_p, frame_pi, fun m ρ _ => Cert.KernelIdeal.Gen.frame m ρ, frame_ri, fun m ρ _ => frame_ri m ρ trivial,
    trivial, algebraic Cert.Pre_finite_query.Rabitq.facts⟩

end Cert.Proof

end
